-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Quant (m : (ℓ : Loc Cert.Quant.nD Cert.Quant.τ Cert.Quant.sig) → Buf (Elt Bits) ℓ) : Prop :=
  True

def Pre_QuantIdeal (m : (ℓ : Loc Cert.QuantIdeal.nD Cert.QuantIdeal.τ Cert.QuantIdeal.sig) → Buf (Elt Ideal) ℓ) : Prop :=
  True

def Pre_QuantReferenceIdeal (m : (ℓ : Loc Cert.QuantReferenceIdeal.nD Cert.QuantReferenceIdeal.τ Cert.QuantReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Quant [hQuant : Cert.Quant.Facts] : Prop :=
  ∀ (m : (ℓ : Loc Cert.Quant.nD Cert.Quant.τ Cert.Quant.sig) → Buf (Elt Bits) ℓ) (g : Dev Cert.Quant.nD → PrngReg), Pre_Quant m →
    θ_run (Cert.Quant.defs (F := Bits)) (onTc (τ := Cert.Quant.τ) (Cert.Quant.main (F := Bits))) ⟨m, fun _ => 0, g⟩ (fun r => (∀ c : Dev Cert.Quant.nD,
      r.2.mem ((c.tc : Thread Cert.Quant.nD Cert.Quant.τ).loc Cert.Quant.main_arg0) = m ((c.tc : Thread Cert.Quant.nD Cert.Quant.τ).loc Cert.Quant.main_arg0))
      ∧ r.2.sem = fun _ => 0)

def quiescent_QuantIdeal [hQuantIdeal : Cert.QuantIdeal.Facts] : Prop :=
  ∀ (m : (ℓ : Loc Cert.QuantIdeal.nD Cert.QuantIdeal.τ Cert.QuantIdeal.sig) → Buf (Elt Ideal) ℓ) (g : Dev Cert.QuantIdeal.nD → PrngReg), Pre_QuantIdeal m →
    θ_run (Cert.QuantIdeal.defs (F := Ideal)) (onTc (τ := Cert.QuantIdeal.τ) (Cert.QuantIdeal.main (F := Ideal))) ⟨m, fun _ => 0, g⟩ (fun r => (∀ c : Dev Cert.QuantIdeal.nD,
      r.2.mem ((c.tc : Thread Cert.QuantIdeal.nD Cert.QuantIdeal.τ).loc Cert.QuantIdeal.main_arg0) = m ((c.tc : Thread Cert.QuantIdeal.nD Cert.QuantIdeal.τ).loc Cert.QuantIdeal.main_arg0))
      ∧ r.2.sem = fun _ => 0)

def quiescent_QuantReferenceIdeal [hQuantReferenceIdeal : Cert.QuantReferenceIdeal.Facts] : Prop :=
  ∀ (m : (ℓ : Loc Cert.QuantReferenceIdeal.nD Cert.QuantReferenceIdeal.τ Cert.QuantReferenceIdeal.sig) → Buf (Elt Ideal) ℓ) (g : Dev Cert.QuantReferenceIdeal.nD → PrngReg), Pre_QuantReferenceIdeal m →
    θ_run (Cert.QuantReferenceIdeal.defs (F := Ideal)) (onTc (τ := Cert.QuantReferenceIdeal.τ) (Cert.QuantReferenceIdeal.main (F := Ideal))) ⟨m, fun _ => 0, g⟩ (fun r => (∀ c : Dev Cert.QuantReferenceIdeal.nD,
      r.2.mem ((c.tc : Thread Cert.QuantReferenceIdeal.nD Cert.QuantReferenceIdeal.τ).loc Cert.QuantReferenceIdeal.main_arg0) = m ((c.tc : Thread Cert.QuantReferenceIdeal.nD Cert.QuantReferenceIdeal.τ).loc Cert.QuantReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Quant_QuantIdeal : Prop :=
  True

def algebraic_QuantIdeal_QuantReferenceIdeal [hQuantIdeal : Cert.QuantIdeal.Facts] [hQuantReferenceIdeal : Cert.QuantReferenceIdeal.Facts] : Prop :=
  ∀ (m : (ℓ : Loc Cert.QuantIdeal.nD Cert.QuantIdeal.τ Cert.QuantIdeal.sig) → Buf (Elt Ideal) ℓ) (g : Dev Cert.QuantIdeal.nD → PrngReg)
    (m' : (ℓ : Loc Cert.QuantReferenceIdeal.nD Cert.QuantReferenceIdeal.τ Cert.QuantReferenceIdeal.sig) → Buf (Elt Ideal) ℓ) (g' : Dev Cert.QuantReferenceIdeal.nD → PrngReg), Pre_QuantIdeal m →
    (∀ c : Dev Cert.QuantIdeal.nD,
      m' ((c.tc : Thread Cert.QuantReferenceIdeal.nD Cert.QuantReferenceIdeal.τ).loc Cert.QuantReferenceIdeal.main_arg0) = m ((c.tc : Thread Cert.QuantIdeal.nD Cert.QuantIdeal.τ).loc Cert.QuantIdeal.main_arg0)) →
    ∃ (v0 : (c : Dev Cert.QuantIdeal.nD) → Buf (Elt Ideal) ((c.tc : Thread Cert.QuantIdeal.nD Cert.QuantIdeal.τ).loc Cert.QuantIdeal.main_v0_0)) (v1 : (c : Dev Cert.QuantIdeal.nD) → Buf (Elt Ideal) ((c.tc : Thread Cert.QuantIdeal.nD Cert.QuantIdeal.τ).loc Cert.QuantIdeal.main_v0_2)),
      θ_run (Cert.QuantIdeal.defs (F := Ideal)) (onTc (τ := Cert.QuantIdeal.τ) (Cert.QuantIdeal.main (F := Ideal))) ⟨m, fun _ => 0, g⟩ (fun r => ∀ c : Dev Cert.QuantIdeal.nD,
          r.2.mem ((c.tc : Thread Cert.QuantIdeal.nD Cert.QuantIdeal.τ).loc Cert.QuantIdeal.main_v0_0) = v0 c
          ∧ r.2.mem ((c.tc : Thread Cert.QuantIdeal.nD Cert.QuantIdeal.τ).loc Cert.QuantIdeal.main_v0_2) = v1 c
          ∧ r.2.mem ((c.tc : Thread Cert.QuantIdeal.nD Cert.QuantIdeal.τ).loc Cert.QuantIdeal.main_arg0) = m ((c.tc : Thread Cert.QuantIdeal.nD Cert.QuantIdeal.τ).loc Cert.QuantIdeal.main_arg0))
      ∧ θ_run (Cert.QuantReferenceIdeal.defs (F := Ideal)) (onTc (τ := Cert.QuantReferenceIdeal.τ) (Cert.QuantReferenceIdeal.main (F := Ideal))) ⟨m', fun _ => 0, g'⟩ (fun r => ∀ c : Dev Cert.QuantReferenceIdeal.nD,
          r.2.mem ((c.tc : Thread Cert.QuantReferenceIdeal.nD Cert.QuantReferenceIdeal.τ).loc Cert.QuantReferenceIdeal.main_v0_0) = v0 c
          ∧ r.2.mem ((c.tc : Thread Cert.QuantReferenceIdeal.nD Cert.QuantReferenceIdeal.τ).loc Cert.QuantReferenceIdeal.main_v0_1) = v1 c
          ∧ r.2.mem ((c.tc : Thread Cert.QuantReferenceIdeal.nD Cert.QuantReferenceIdeal.τ).loc Cert.QuantReferenceIdeal.main_arg0) = m' ((c.tc : Thread Cert.QuantReferenceIdeal.nD Cert.QuantReferenceIdeal.τ).loc Cert.QuantReferenceIdeal.main_arg0))

def Claim : Prop :=
  ∃ (hKernel : Cert.Kernel.Facts) (hKernelIdeal : Cert.KernelIdeal.Facts) (hReferenceIdeal : Cert.ReferenceIdeal.Facts) (hQuant : Cert.Quant.Facts) (hQuantIdeal : Cert.QuantIdeal.Facts) (hQuantReferenceIdeal : Cert.QuantReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Quant (hQuant := hQuant)
    ∧ quiescent_QuantIdeal (hQuantIdeal := hQuantIdeal)
    ∧ quiescent_QuantReferenceIdeal (hQuantReferenceIdeal := hQuantReferenceIdeal)
    ∧ preserves_Kernel_KernelIdeal
    ∧ algebraic_KernelIdeal_ReferenceIdeal (hKernelIdeal := hKernelIdeal) (hReferenceIdeal := hReferenceIdeal)
    ∧ preserves_Quant_QuantIdeal
    ∧ algebraic_QuantIdeal_QuantReferenceIdeal (hQuantIdeal := hQuantIdeal) (hQuantReferenceIdeal := hQuantReferenceIdeal)
-- ==== Kernel.lean ====
abbrev S6144x18432 : Shape := ⟨2, ![6144, 18432]⟩
abbrev S2x56x4608x128 : Shape := ⟨4, ![2, 56, 4608, 128]⟩
abbrev S6144x1 : Shape := ⟨2, ![6144, 1]⟩
abbrev S2x7168 : Shape := ⟨2, ![2, 7168]⟩
abbrev S2x56x1x128 : Shape := ⟨4, ![2, 56, 1, 128]⟩
abbrev S6144x7168 : Shape := ⟨2, ![6144, 7168]⟩
abbrev S512x18432 : Shape := ⟨2, ![512, 18432]⟩
abbrev S1x1x4608x128 : Shape := ⟨4, ![1, 1, 4608, 128]⟩
abbrev S512x1 : Shape := ⟨2, ![512, 1]⟩
abbrev S2x1x1x128 : Shape := ⟨4, ![2, 1, 1, 128]⟩
abbrev S512x128 : Shape := ⟨2, ![512, 128]⟩
abbrev S512x7168 : Shape := ⟨2, ![512, 7168]⟩
abbrev S56x512x128 : Shape := ⟨3, ![56, 512, 128]⟩
abbrev S4608x128 : Shape := ⟨2, ![4608, 128]⟩
abbrev S18432x128 : Shape := ⟨2, ![18432, 128]⟩
abbrev S18432x256 : Shape := ⟨2, ![18432, 256]⟩
abbrev S512x256 : Shape := ⟨2, ![512, 256]⟩
abbrev S1x1x1x128 : Shape := ⟨4, ![1, 1, 1, 128]⟩
abbrev S128 : Shape := ⟨1, ![128]⟩
abbrev S1x128 : Shape := ⟨2, ![1, 128]⟩
abbrev S1x512x128 : Shape := ⟨3, ![1, 512, 128]⟩
abbrev S512 : Shape := ⟨1, ![512]⟩

abbrev nBuf : Space → Nat
  | .hbm => 8
  | .vmem => 17
  | .smem => 0
  | _ => 0

abbrev bufTy : (tb : Table) → Fin (tcTables nBuf tb) → BufTy
  | .hbm, ⟨0, _⟩ => ⟨S6144x18432, .fp8e4m3⟩
  | .hbm, ⟨1, _⟩ => ⟨S2x56x4608x128, .i32⟩
  | .hbm, ⟨2, _⟩ => ⟨S6144x1, .f32⟩
  | .hbm, ⟨3, _⟩ => ⟨S2x7168, .f32⟩
  | .hbm, ⟨4, _⟩ => ⟨S2x56x1x128, .f32⟩
  | .hbm, ⟨5, _⟩ => ⟨S6144x7168, .bf16⟩
  | .hbm, ⟨6, _⟩ => ⟨S6144x7168, .fp8e4m3⟩
  | .hbm, ⟨7, _⟩ => ⟨S6144x1, .f32⟩
  | .local _ .vmem, ⟨0, _⟩ => ⟨S512x18432, .fp8e4m3⟩
  | .local _ .vmem, ⟨1, _⟩ => ⟨S512x18432, .fp8e4m3⟩
  | .local _ .vmem, ⟨2, _⟩ => ⟨S1x1x4608x128, .i32⟩
  | .local _ .vmem, ⟨3, _⟩ => ⟨S1x1x4608x128, .i32⟩
  | .local _ .vmem, ⟨4, _⟩ => ⟨S1x1x4608x128, .i32⟩
  | .local _ .vmem, ⟨5, _⟩ => ⟨S1x1x4608x128, .i32⟩
  | .local _ .vmem, ⟨6, _⟩ => ⟨S512x1, .f32⟩
  | .local _ .vmem, ⟨7, _⟩ => ⟨S512x1, .f32⟩
  | .local _ .vmem, ⟨8, _⟩ => ⟨S2x1x1x128, .f32⟩
  | .local _ .vmem, ⟨9, _⟩ => ⟨S2x1x1x128, .f32⟩
  | .local _ .vmem, ⟨10, _⟩ => ⟨S512x128, .bf16⟩
  | .local _ .vmem, ⟨11, _⟩ => ⟨S512x128, .bf16⟩
  | .local _ .vmem, ⟨12, _⟩ => ⟨S512x7168, .fp8e4m3⟩
  | .local _ .vmem, ⟨13, _⟩ => ⟨S512x7168, .fp8e4m3⟩
  | .local _ .vmem, ⟨14, _⟩ => ⟨S512x1, .f32⟩
  | .local _ .vmem, ⟨15, _⟩ => ⟨S512x1, .f32⟩
  | .local _ .vmem, ⟨16, _⟩ => ⟨S56x512x128, .f32⟩
  | _, _ => ⟨S6144x18432, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![12, 56], ![false, false]⟩

def k0_off1 (i : grid0.Coords) : Fin 3 → Nat :=
  let arg1 : BitVec 32 := BitVec.ofNat 32 (i 1).val
  let v29 : Index := Scalar.indexCast arg1
  let c0_20 : Index := 0#32
  let c0_21 : Index := 0#32
  ![v29.toNat, 0, 0]
def k0_cond1 (i : grid0.Coords) : BitVec 1 :=
  let arg1 : BitVec 32 := BitVec.ofNat 32 (i 1).val
  let c55_i32 : BitVec 32 := 55#32
  let v33 : BitVec 1 := Scalar.cmpi .eq arg1 c55_i32
  let v34 : BitVec 32 := Scalar.extui v33
  let c0_i32 : BitVec 32 := 0#32
  let v35 : BitVec 1 := Scalar.cmpi .ne v34 c0_i32
  v35

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x18432 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x4608x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x4608x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2x1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x7168 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S6144x18432 : Shape := ⟨2, ![6144, 18432]⟩
abbrev S2x56x4608x128 : Shape := ⟨4, ![2, 56, 4608, 128]⟩
abbrev S6144x1 : Shape := ⟨2, ![6144, 1]⟩
abbrev S2x7168 : Shape := ⟨2, ![2, 7168]⟩
abbrev S2x4608x56x128 : Shape := ⟨4, ![2, 4608, 56, 128]⟩
abbrev S2x4608x7168 : Shape := ⟨3, ![2, 4608, 7168]⟩
abbrev S6144x7168 : Shape := ⟨2, ![6144, 7168]⟩
abbrev S1x4608x7168 : Shape := ⟨3, ![1, 4608, 7168]⟩
abbrev S4608x7168 : Shape := ⟨2, ![4608, 7168]⟩
abbrev S18432x7168 : Shape := ⟨2, ![18432, 7168]⟩
abbrev S1x7168 : Shape := ⟨2, ![1, 7168]⟩
abbrev S6144 : Shape := ⟨1, ![6144]⟩
abbrev S6144x246 : Shape := ⟨2, ![6144, 246]⟩

abbrev nBuf : Space → Nat
  | .hbm => 9
  | .vmem => 7
  | .smem => 0
  | _ => 0

abbrev bufTy : (tb : Table) → Fin (tcTables nBuf tb) → BufTy
  | .hbm, ⟨0, _⟩ => ⟨S6144x18432, .fp8e4m3⟩
  | .hbm, ⟨1, _⟩ => ⟨S2x56x4608x128, .i32⟩
  | .hbm, ⟨2, _⟩ => ⟨S6144x1, .f32⟩
  | .hbm, ⟨3, _⟩ => ⟨S2x7168, .f32⟩
  | .hbm, ⟨4, _⟩ => ⟨S2x4608x56x128, .i32⟩
  | .hbm, ⟨5, _⟩ => ⟨S2x4608x7168, .i32⟩
  | .hbm, ⟨6, _⟩ => ⟨S6144x7168, .bf16⟩
  | .hbm, ⟨7, _⟩ => ⟨S6144x7168, .fp8e4m3⟩
  | .hbm, ⟨8, _⟩ => ⟨S6144x1, .f32⟩
  | .local _ .vmem, ⟨0, _⟩ => ⟨S6144x18432, .fp8e4m3⟩
  | .local _ .vmem, ⟨1, _⟩ => ⟨S2x4608x7168, .i32⟩
  | .local _ .vmem, ⟨2, _⟩ => ⟨S6144x1, .f32⟩
  | .local _ .vmem, ⟨3, _⟩ => ⟨S2x7168, .f32⟩
  | .local _ .vmem, ⟨4, _⟩ => ⟨S6144x7168, .bf16⟩
  | .local _ .vmem, ⟨5, _⟩ => ⟨S6144x7168, .fp8e4m3⟩
  | .local _ .vmem, ⟨6, _⟩ => ⟨S6144x1, .f32⟩
  | _, _ => ⟨S6144x18432, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S6144x18432 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x4608x7168 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6144x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x7168 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6144x7168 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6144x7168 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6144x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Quant.lean ====
abbrev S6144x18432 : Shape := ⟨2, ![6144, 18432]⟩
abbrev S6144x1 : Shape := ⟨2, ![6144, 1]⟩
abbrev S64x18432 : Shape := ⟨2, ![64, 18432]⟩
abbrev S64x1 : Shape := ⟨2, ![64, 1]⟩
abbrev S64 : Shape := ⟨1, ![64]⟩
abbrev S64x128 : Shape := ⟨2, ![64, 128]⟩
abbrev S64x128x1 : Shape := ⟨3, ![64, 128, 1]⟩

abbrev nBuf : Space → Nat
  | .hbm => 4
  | .vmem => 8
  | .smem => 0
  | _ => 0

abbrev bufTy : (tb : Table) → Fin (tcTables nBuf tb) → BufTy
  | .hbm, ⟨0, _⟩ => ⟨S6144x18432, .bf16⟩
  | .hbm, ⟨1, _⟩ => ⟨S6144x18432, .fp8e4m3⟩
  | .hbm, ⟨2, _⟩ => ⟨S6144x18432, .fp8e4m3⟩
  | .hbm, ⟨3, _⟩ => ⟨S6144x1, .f32⟩
  | .local _ .vmem, ⟨0, _⟩ => ⟨S64x18432, .bf16⟩
  | .local _ .vmem, ⟨1, _⟩ => ⟨S64x18432, .bf16⟩
  | .local _ .vmem, ⟨2, _⟩ => ⟨S64x18432, .fp8e4m3⟩
  | .local _ .vmem, ⟨3, _⟩ => ⟨S64x18432, .fp8e4m3⟩
  | .local _ .vmem, ⟨4, _⟩ => ⟨S64x18432, .fp8e4m3⟩
  | .local _ .vmem, ⟨5, _⟩ => ⟨S64x18432, .fp8e4m3⟩
  | .local _ .vmem, ⟨6, _⟩ => ⟨S64x1, .f32⟩
  | .local _ .vmem, ⟨7, _⟩ => ⟨S64x1, .f32⟩
  | _, _ => ⟨S6144x18432, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x18432 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x18432 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x18432 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== QuantReferenceIdeal.lean ====
abbrev S6144x18432 : Shape := ⟨2, ![6144, 18432]⟩
abbrev S6144x1 : Shape := ⟨2, ![6144, 1]⟩
abbrev S6144 : Shape := ⟨1, ![6144]⟩
abbrev S6144x246 : Shape := ⟨2, ![6144, 246]⟩

abbrev nBuf : Space → Nat
  | .hbm => 3
  | .vmem => 3
  | .smem => 0
  | _ => 0

abbrev bufTy : (tb : Table) → Fin (tcTables nBuf tb) → BufTy
  | .hbm, ⟨0, _⟩ => ⟨S6144x18432, .bf16⟩
  | .hbm, ⟨1, _⟩ => ⟨S6144x18432, .fp8e4m3⟩
  | .hbm, ⟨2, _⟩ => ⟨S6144x1, .f32⟩
  | .local _ .vmem, ⟨0, _⟩ => ⟨S6144x18432, .bf16⟩
  | .local _ .vmem, ⟨1, _⟩ => ⟨S6144x18432, .fp8e4m3⟩
  | .local _ .vmem, ⟨2, _⟩ => ⟨S6144x1, .f32⟩
  | _, _ => ⟨S6144x18432, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S6144x18432 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6144x18432 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6144x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Run.lean ====
/- The kernel's body run at one grid point: what each staging buffer holds afterwards. -/
module

public import proofs.«01_k».proof.Proof.Gen.KernelIdeal.Frame
public import proofs.«01_k».proof.Proof.Gen.KernelIdeal.Skeleton
public import proofs.«01_k».proof.Proof.Gen.KernelIdeal.Points
public import Idealize.ShloMosaic.Lib.ValueLayout
public import Idealize.ShloMosaic.Lib.ValueLayoutCasts
public import Idealize.ShloMosaic.Lib.WritesUnit

@[expose] public section

set_option maxRecDepth 16384

noncomputable section

namespace Cert.KernelIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's branch, from the grid coordinates. -/
abbrev cond0_0 (i : grid0.Coords) : Prop := k0_cond1 i = 1#1

/-- The tile of the product the body computes at one point, from the five input blocks. -/
def htile (x0 : Vec F S512x18432 .fp8e4m3) (x1 x2 : Vec F S1x1x4608x128 .i32) (x3 : Vec F S512x1 .f32)
    (x4 : Vec F S2x1x1x128 .f32) : Vec F S512x128 .f32 :=
  k0_pay80 (View.ld x1 (Rect.unit ![0, 0, 0, 0] S1x1x4608x128.size inb_S1x1x4608x128_S1x1x4608x128_0_0_0_0))
    (View.ld x2 (Rect.unit ![0, 0, 0, 0] S1x1x4608x128.size inb_S1x1x4608x128_S1x1x4608x128_0_0_0_0))
    (View.ld x0 (Rect.unit ![0, 0] S512x18432.size inb_S512x18432_S512x18432_0_0))
    (View.ld x3 (Rect.unit ![0, 0] S512x1.size inb_S512x1_S512x1_0_0)) (View.ld x4 (Rect.unit ![0, 0, 0, 0] S1x1x1x128.size inb_S2x1x1x128_S1x1x1x128_0_0_0_0))
    (View.ld x4 (Rect.unit ![1, 0, 0, 0] S1x1x1x128.size inb_S2x1x1x128_S1x1x1x128_1_0_0_0))

/-- That tile as the body stores it. -/
def hblk (x0 : Vec F S512x18432 .fp8e4m3) (x1 x2 : Vec F S1x1x4608x128 .i32) (x3 : Vec F S512x1 .f32)
    (x4 : Vec F S2x1x1x128 .f32) : Vec F S512x128 .bf16 := truncf .bf16 (htile x0 x1 x2 x3 x4) bitsLt_bf16_f32

/-- The scratch after tile `n` is replaced by `h`. -/
def put (n : ℕ) (s : Vec F S56x512x128 .f32) (h : Vec F S512x128 .f32) : Vec F S56x512x128 .f32 :=
  fun j => if (j 0).val = n then h (ix2 (j 1) (j 2)) else s j

/-- A whole two-axis buffer overwritten reads what was written. -/
theorem read_whole2 {κ : Kind} {sp : Space} {a b : ℕ} {e : EltTy} {Val : EltTy → Type} (v : View sig κ sp ⟨2, ![a, b]⟩ e)
    (f : v.ty.Contents Val) (inb : ∀ k, (![0, 0] : Fin 2 → ℕ) k + (![a, b] : Fin 2 → ℕ) k ≤ (![a, b] : Fin 2 → ℕ) k)
    (w : (⟨2, ![a, b]⟩ : Shape).Idx → Val e) (L : List (View.Piece Val ⟨2, ![a, b]⟩ e)) :
    v.read Val (v.writes Val f ((⟨Rect.unit (s := ⟨2, ![a, b]⟩) ![0, 0] ![a, b] inb, w⟩ : View.Piece Val ⟨2, ![a, b]⟩ e) :: L)) = w := by
  funext y
  exact View.read_writes_cons_unit_of_mem v f inb w L y y rfl (Fin.forall_fin_two.mpr ⟨(Nat.zero_add _).symm, (Nat.zero_add _).symm⟩)

/-- The offsets of the tile the body stores in the scratch. -/
theorem k0_off1_val (i : grid0.Coords) : k0_off1 i = ![(i 1).val, 0, 0] := k0_off1_eq i

/-- Storing a tile in the scratch is `put`. -/
theorem read_put {κ : Kind} {sp : Space} (v : View sig κ sp S56x512x128 .f32) (f : v.ty.Contents (Elt F)) (i : grid0.Coords)
    (h : Vec F S512x128 .f32) :
    v.read (Elt F) (v.writes (Elt F) f [⟨Rect.unit (k0_off1 i) S1x512x128.size (k0_off1_inb i), k0_pay1 h⟩])
      = put (i 1).val (v.read (Elt F) f) h := by
  funext y
  unfold put
  by_cases hy : (y 0).val = (i 1).val
  · rw [if_pos hy]
    refine (View.read_writes_cons_unit_of_mem v f (k0_off1_inb i) (k0_pay1 h) [] y (ix3 (0 : Fin 1) (y 1) (y 2)) (k0_off1_val i) ?_).trans ?_
    · intro a
      match a with
      | ⟨0, _⟩ => exact hy
      | ⟨1, _⟩ => exact (Nat.zero_add _).symm
      | ⟨2, _⟩ => exact (Nat.zero_add _).symm
    · exact shapeCast_ab_1ab_apply h shapeCasts_S512x128_S1x512x128 0 (y 1) (y 2)
  · rw [if_neg hy]
    exact View.read_writes_cons_unit_of_not_mem v f (k0_off1_inb i) (k0_pay1 h) [] y (k0_off1_val i) (0 : Fin 3)
      (by show (y 0).val < (i 1).val ∨ (i 1).val + 1 ≤ (y 0).val; omega)

set_option maxHeartbeats 400000 in
theorem runA (c : Dev nD) (i : grid0.Coords) (arg2 : Memref sig .tc .vmem S512x18432 .fp8e4m3) (harg2 : arg2.IsWhole) (arg3 : Memref sig .tc .vmem S1x1x4608x128 .i32) (harg3 : arg3.IsWhole) (arg4 : Memref sig .tc .vmem S1x1x4608x128 .i32) (harg4 : arg4.IsWhole) (arg5 : Memref sig .tc .vmem S512x1 .f32) (harg5 : arg5.IsWhole) (arg6 : Memref sig .tc .vmem S2x1x1x128 .f32) (harg6 : arg6.IsWhole) (arg7 : Memref sig .tc .vmem S512x128 .bf16) (harg7 : arg7.IsWhole) (arg8 : Memref sig .tc .vmem S512x7168 .fp8e4m3) (harg8 : arg8.IsWhole) (arg9 : Memref sig .tc .vmem S512x1 .f32) (harg9 : arg9.IsWhole) (arg10 : Memref sig .tc .vmem S56x512x128 .f32) (harg10 : arg10.IsWhole) (hc0 : ¬cond0_0 i) (x0 : Vec F S512x18432 .fp8e4m3) (x1 : Vec F S1x1x4608x128 .i32) (x2 : Vec F S1x1x4608x128 .i32) (x3 : Vec F S512x1 .f32) (x4 : Vec F S2x1x1x128 .f32) (s : Vec F S56x512x128 .f32) :
    ∀ (E : Set ℕ) (K : PUnit → sProp 𝕄),
      iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg10 fullShare s ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (hblk x0 x1 x2 x3 x4) ∗ owns (c : Thread nD τ) arg10 fullShare (put (i 1).val s (htile x0 x1 x2 x3 x4))) -∗ K ⟨⟩))
        ⊢ wp frame (wpE (defs₀ (F := F)) Variants.none c none) E (cc0_matmul_swiglu i arg2 harg2 arg3 harg3 arg4 harg4 arg5 harg5 arg6 harg6 arg7 harg7 arg8 harg8 arg9 harg9 arg10 harg10) K := by
  intro E K
  simp only [cc0_matmul_swiglu_eq_skeleton]; unfold cc0_matmul_swiglu_skel
  simp only [k0_part20_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hs, HS0⟩, Hk⟩
  subst hf0 hf1 hf2 hf3 hf4 hs
  sl_exec (disch := first | sl_exact hc0)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; swap; · iexact H5
    ipureintro
    refine (read_whole2 _ _ _ _ _).trans ?_
    rfl
  iexists _; isplitr; swap; · iexact HS0
  ipureintro
  refine (read_put _ _ _ _).trans ?_
  rfl
/-- The scratch as the body's first load reads it. -/
def all (S : Vec F S56x512x128 .f32) : Vec F S56x512x128 .f32 :=
  View.ld S (Rect.unit ![0, 0, 0] S56x512x128.size inb_S56x512x128_S56x512x128_0_0_0)

/-- The row scales the body stores, from the full scratch. -/
def out9 (S : Vec F S56x512x128 .f32) : Vec F S512x1 .f32 :=
  k0_pay12 (k0_pay3 (all S)) (k0_pay4 (all S)) (k0_pay8 (k0_pay4 (all S)) (k0_pay5 (all S)) (k0_pay6 (all S)) k0_pay7)
    (k0_pay9 (k0_pay4 (all S)) (k0_pay5 (all S)) (k0_pay6 (all S)) k0_pay7) k0_pay10

/-- The reciprocal row scales. -/
def inv9 (S : Vec F S56x512x128 .f32) : Vec F S512x1 .f32 :=
  k0_pay13 (k0_pay3 (all S)) (k0_pay4 (all S)) (k0_pay8 (k0_pay4 (all S)) (k0_pay5 (all S)) (k0_pay6 (all S)) k0_pay7)
    (k0_pay9 (k0_pay4 (all S)) (k0_pay5 (all S)) (k0_pay6 (all S)) k0_pay7) k0_pay10

/-- The offsets of tile `n` in the scratch are in bounds. -/
theorem inb10 (n : Fin 56) : ∀ a, (![n.val, 0, 0] : Fin 3 → ℕ) a + S1x512x128.size a ≤ S56x512x128.size a := fun a => by
  match a with
  | ⟨0, _⟩ => exact n.isLt
  | ⟨1, _⟩ => exact Nat.le_refl _
  | ⟨2, _⟩ => exact Nat.le_refl _

/-- The offsets of tile `n` in the row of codes are in bounds. -/
theorem inb8 (n : Fin 56) : ∀ a, (![0, 128 * n.val] : Fin 2 → ℕ) a + S512x128.size a ≤ S512x7168.size a := fun a => by
  match a with
  | ⟨0, _⟩ => exact Nat.le_refl _
  | ⟨1, _⟩ => have := n.isLt; show 128 * n.val + 128 ≤ 7168; omega

/-- The codes of tile `n`. -/
def code8 (S : Vec F S56x512x128 .f32) (n : Fin 56) : Vec F S512x128 .fp8e4m3 :=
  k0_pay20 (k0_pay14 (inv9 S)) (View.ld S (Rect.unit ![n.val, 0, 0] S1x512x128.size (inb10 n)))

/-- The codes the body stores, from the full scratch. -/
def out8 (S : Vec F S56x512x128 .f32) : Vec F S512x7168 .fp8e4m3 :=
  fun j => code8 S ⟨(j 1).val / 128, by have : (j 1).val < 7168 := (j 1).isLt; omega⟩
    (ix2 (j 0) ⟨(j 1).val % 128, Nat.mod_lt _ (by decide)⟩)

/-- The 56 stores of codes together write `out8`. -/
theorem read_out8 {κ : Kind} {sp : Space} (v : View sig κ sp S512x7168 .fp8e4m3) (f : v.ty.Contents (Elt F))
    (S : Vec F S56x512x128 .f32) :
    v.read (Elt F) (v.writes (Elt F) f (View.tilePieces (s := S512x7168) (NT := 56) S512x128.size (fun n => ![0, 128 * n.val]) inb8 (code8 S) 56 (Nat.le_refl _)))
      = out8 S := by
  funext y
  have hy : (y 1).val < 7168 := (y 1).isLt
  exact View.read_tilePieces v f S512x128.size (fun n => ![0, 128 * n.val]) inb8 (code8 S) 56 (Nat.le_refl _) y
    ⟨(y 1).val / 128, by omega⟩ (by show (y 1).val / 128 < 56; omega) (ix2 (y 0) ⟨(y 1).val % 128, Nat.mod_lt _ (by decide)⟩)
    (Fin.forall_fin_two.mpr ⟨(Nat.zero_add _).symm, by show (y 1).val = 128 * ((y 1).val / 128) + (y 1).val % 128; omega⟩)
    (1 : Fin 2) (fun i' hi' => by
      have : i'.val ≠ (y 1).val / 128 := fun h => hi' (Fin.ext h)
      show (y 1).val < 128 * i'.val ∨ 128 * i'.val + 128 ≤ (y 1).val
      omega)

/-- The 56 stores of codes, given as a list, write `out8`. -/
theorem read_out8_of {κ : Kind} {sp : Space} (v : View sig κ sp S512x7168 .fp8e4m3) (f : v.ty.Contents (Elt F))
    (S S' : Vec F S56x512x128 .f32) (L : List (View.Piece (Elt F) S512x7168 .fp8e4m3))
    (hL : L = View.tilePieces (s := S512x7168) (NT := 56) S512x128.size (fun n => ![0, 128 * n.val]) inb8 (code8 S) 56 (Nat.le_refl _))
    (hS : S = S') : v.read (Elt F) (v.writes (Elt F) f L) = out8 S' := by
  subst hL hS
  exact read_out8 v f S

set_option maxHeartbeats 400000 in
theorem runB (c : Dev nD) (i : grid0.Coords) (arg2 : Memref sig .tc .vmem S512x18432 .fp8e4m3) (harg2 : arg2.IsWhole) (arg3 : Memref sig .tc .vmem S1x1x4608x128 .i32) (harg3 : arg3.IsWhole) (arg4 : Memref sig .tc .vmem S1x1x4608x128 .i32) (harg4 : arg4.IsWhole) (arg5 : Memref sig .tc .vmem S512x1 .f32) (harg5 : arg5.IsWhole) (arg6 : Memref sig .tc .vmem S2x1x1x128 .f32) (harg6 : arg6.IsWhole) (arg7 : Memref sig .tc .vmem S512x128 .bf16) (harg7 : arg7.IsWhole) (arg8 : Memref sig .tc .vmem S512x7168 .fp8e4m3) (harg8 : arg8.IsWhole) (arg9 : Memref sig .tc .vmem S512x1 .f32) (harg9 : arg9.IsWhole) (arg10 : Memref sig .tc .vmem S56x512x128 .f32) (harg10 : arg10.IsWhole) (hc0 : cond0_0 i) (x0 : Vec F S512x18432 .fp8e4m3) (x1 : Vec F S1x1x4608x128 .i32) (x2 : Vec F S1x1x4608x128 .i32) (x3 : Vec F S512x1 .f32) (x4 : Vec F S2x1x1x128 .f32) (s : Vec F S56x512x128 .f32) :
    ∀ (E : Set ℕ) (K : PUnit → sProp 𝕄),
      iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare s ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (hblk x0 x1 x2 x3 x4) ∗ owns (c : Thread nD τ) arg8 fullShare (out8 (put (i 1).val s (htile x0 x1 x2 x3 x4))) ∗ owns (c : Thread nD τ) arg9 fullShare (out9 (put (i 1).val s (htile x0 x1 x2 x3 x4))) ∗ owns (c : Thread nD τ) arg10 fullShare (put (i 1).val s (htile x0 x1 x2 x3 x4))) -∗ K ⟨⟩))
        ⊢ wp frame (wpE (defs₀ (F := F)) Variants.none c none) E (cc0_matmul_swiglu i arg2 harg2 arg3 harg3 arg4 harg4 arg5 harg5 arg6 harg6 arg7 harg7 arg8 harg8 arg9 harg9 arg10 harg10) K := by
  intro E K
  simp only [cc0_matmul_swiglu_eq_skeleton]; unfold cc0_matmul_swiglu_skel
  simp only [k0_part20_eq_skeleton, k0_part19_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%fs0, %hs, HS0⟩, Hk⟩
  subst hf0 hf1 hf2 hf3 hf4 hs
  sl_exec (disch := first | sl_exact hc0)
  sl_step
  iapply Hk
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; swap; · iexact H5
    ipureintro
    refine (read_whole2 _ _ _ _ _).trans ?_
    rfl
  isplitl [H6]
  · iexists _; isplitr; swap; · iexact H6
    ipureintro
    exact read_out8_of _ _ _ _ _ rfl (read_put arg10.view fs0 i _)
  isplitl [H7]
  · iexists _; isplitr; swap; · iexact H7
    ipureintro
    refine (read_whole2 _ _ _ _ _).trans ?_
    rw [← read_put arg10.view fs0 i]
    rfl
  iexists _; isplitr; swap; · iexact HS0
  ipureintro
  refine (read_put _ _ _ _).trans ?_
  rfl

end Cert.KernelIdeal.Gen

end
-- ==== Proof.Body.lean ====
/- The kernel's launch with every staging buffer's contents named: the body at each grid point, the scratch's
   invariant (the tiles of the current row block computed so far), and the run to its final arrays. -/
module

public import proofs.«01_k».proof.Proof.Run
public import Idealize.ShloMosaic.Lib.Claim

@[expose] public section

set_option maxRecDepth 16384

noncomputable section

namespace Cert.KernelIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points -/

/-- The number of points. -/
theorem lt672 (t : Fin cfg0.N) : t.val < 672 := Nat.lt_of_lt_of_eq t.isLt N_0

/-- The second grid coordinate of a point. -/
theorem coords1 (t : Fin cfg0.N) : (grid0.coords t 1).val = t.val % 56 := by
  have e1 : (grid0.coords t 1).val = t.val / 1 % 56 := Pipeline.Grid.coords_val t 1 (by decide) rfl
  rw [e1, Nat.div_one]

/-- The first grid coordinate of a point. -/
theorem coords0 (t : Fin cfg0.N) : (grid0.coords t 0).val = t.val / 56 := by
  have e0 : (grid0.coords t 0).val = t.val / 56 % 12 := Pipeline.Grid.coords_val t 0 (by decide) rfl
  have := lt672 t
  rw [e0]; omega

/-- The branch is taken at the last point of each row block. -/
theorem hcond0_0 : ∀ t : Fin cfg0.N, cond0_0 (grid0.coords t) ↔ t.val % 56 = 55 :=
  (fun t => by
    have ht : t.val < 672 := Nat.lt_of_lt_of_eq t.isLt N_0
    have e0 : (grid0.coords t 0).val = t.val / 56 % 12 := Pipeline.Grid.coords_val t 0 (by decide) rfl
    have e1 : (grid0.coords t 1).val = t.val / 1 % 56 := Pipeline.Grid.coords_val t 1 (by decide) rfl
    simp only [cond0_0, k0_cond1, e0, e1]
    word_cmp
   : ∀ t : Fin grid0.N, cond0_0 (grid0.coords t) ↔ t.val % 56 = 55)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl

/-- Windows 6 and 7 are idle where the branch is not taken and live where it is. -/
theorem idle6 (t : Fin cfg0.N) (h : ¬ t.val % 56 = 55) : cfg0.idle 6 (grid0.coords t) = true := by
  have h' : ¬ k0_cond1 (grid0.coords t) = 1#1 := fun e => h ((hcond0_0 t).mp e)
  show (!(k0_cond1 (grid0.coords t) == 1#1)) = true
  rw [beq_false_of_ne h']; rfl
theorem idle7 (t : Fin cfg0.N) (h : ¬ t.val % 56 = 55) : cfg0.idle 7 (grid0.coords t) = true := idle6 t h
theorem liveAt0_6 (t : Fin cfg0.N) (h : t.val % 56 = 55) : cfg0.idle 6 (grid0.coords t) = false := by
  have h' : k0_cond1 (grid0.coords t) = 1#1 := (hcond0_0 t).mpr h
  show (!(k0_cond1 (grid0.coords t) == 1#1)) = false
  rw [h']; rfl
theorem liveAt0_7 (t : Fin cfg0.N) (h : t.val % 56 = 55) : cfg0.idle 7 (grid0.coords t) = false := liveAt0_6 t h
theorem noflush6 (t : Fin cfg0.N) (h : ¬ t.val % 56 = 55) : (cfg0.win 6).flush t = false :=
  Bool.eq_false_iff.mpr fun e => h ((flush0_6 t).mp e)
theorem noflush7 (t : Fin cfg0.N) (h : ¬ t.val % 56 = 55) : (cfg0.win 7).flush t = false :=
  Bool.eq_false_iff.mpr fun e => h ((flush0_7 t).mp e)

abbrev ms0_0 (t : Fin cfg0.N) : Memref sig .tc .vmem S512x18432 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x4608x128 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x4608x128 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2x1x1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x128 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x7168 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x1 .f32 := win0_7.stage (cfg0.slots t 7)
abbrev hs0_7 (t : Fin cfg0.N) : (ms0_7 t).IsWhole := hstage0_7 ((cfg0.slots t 7).cast nbuf0_7)
/-- The scratch. -/
abbrev scM0_0 : Memref sig .tc .vmem S56x512x128 .f32 := Memref.whole cc0_scratch0

theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## The scratch's invariant -/

/-- The tile computed at point `t`. -/
def htileAt (c : Dev nD) (t : Fin cfg0.N) : Vec F S512x128 .f32 := htile (iblk m c 0 t) (iblk m c 1 t) (iblk m c 2 t) (iblk m c 3 t) (iblk m c 4 t)

/-- The tile as point `t` stores it. -/
def hblkAt (c : Dev nD) (t : Fin cfg0.N) : Vec F S512x128 .bf16 := hblk (iblk m c 0 t) (iblk m c 1 t) (iblk m c 2 t) (iblk m c 3 t) (iblk m c 4 t)

/-- Point `n` of `t`'s row block. -/
def rowPt (t : Fin cfg0.N) (n : Fin 56) : Fin cfg0.N :=
  ⟨56 * (t.val / 56) + n.val, Nat.lt_of_lt_of_eq (by have := lt672 t; have := n.isLt; omega : _ < 672) N_0.symm⟩

/-- All the tiles of `t`'s row block. -/
def rowTiles (c : Dev nD) (t : Fin cfg0.N) : Vec F S56x512x128 .f32 := fun j => htileAt m c (rowPt t (j 0)) (ix2 (j 1) (j 2))

/-- Before point `t` the scratch holds the tiles of the row block's earlier points. -/
def Good (c : Dev nD) (t : ℕ) (s : Vec F S56x512x128 .f32) : Prop :=
  ∀ u : Fin cfg0.N, u.val / 56 = t / 56 → u.val < t → ∀ j : S56x512x128.Idx, (j 0).val = u.val % 56 →
    s j = htileAt m c u (ix2 (j 1) (j 2))

/-- The body at point `t` extends it by one tile. -/
theorem Good.step {c : Dev nD} {t : Fin cfg0.N} {s : Vec F S56x512x128 .f32} (h : Good m c t.val s) :
    Good m c (t.val + 1) (put (t.val % 56) s (htileAt m c t)) := by
  intro u hu hlt j hj
  unfold put
  by_cases he : u = t
  · subst he
    rw [if_pos hj]
  · have hne : u.val ≠ t.val := fun h => he (Fin.ext h)
    rw [if_neg (by rw [hj]; omega)]
    exact h u (by omega) (by omega) j hj

/-- At the last point of a row block the scratch is then all its tiles. -/
theorem Good.full {c : Dev nD} {t : Fin cfg0.N} {s : Vec F S56x512x128 .f32} (h : Good m c t.val s) (ht : t.val % 56 = 55) :
    put (t.val % 56) s (htileAt m c t) = rowTiles m c t := by
  funext j
  have hj : (j 0).val < 56 := (j 0).isLt
  unfold put rowTiles
  by_cases he : (j 0).val = t.val % 56
  · rw [if_pos he]
    have : rowPt t (j 0) = t := Fin.ext (by show 56 * (t.val / 56) + (j 0).val = t.val; omega)
    rw [this]
  · rw [if_neg he]
    refine h (rowPt t (j 0)) ?_ ?_ j ?_
    · show (56 * (t.val / 56) + (j 0).val) / 56 = t.val / 56; omega
    · show 56 * (t.val / 56) + (j 0).val < t.val; omega
    · show (j 0).val = (56 * (t.val / 56) + (j 0).val) % 56; omega

/-! ## The launch's data -/

/-- The arrays as the launch finds them; after each point each input's buffer at its block, the first output's at the
    point's tile, the other two at the codes and scales of the row block; the scratch as `Good` says. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => hblkAt m c t
    | ⟨6, _⟩ => out8 (rowTiles m c t)
    | ⟨7, _⟩ => out9 (rowTiles m c t)
  Φ t := iprop((∃ s, ⌜Good m c t.val s⌝ ∗ owns (c : Thread nD τ) scM0_0 fullShare s) ∗ (∃ r, prngReg c r))
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = hblkAt m c t := by dsimp only [dats]
theorem after0_6 (c : Dev nD) (t : Fin cfg0.N) : (dats m 0 c).after 6 t = out8 (rowTiles m c t) := by dsimp only [dats]
theorem after0_7 (c : Dev nD) (t : Fin cfg0.N) : (dats m 0 c).after 7 t = out9 (rowTiles m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body at a point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.castSucc = iprop((∃ s, ⌜Good m c t.val s⌝ ∗ owns (c : Thread nD τ) scM0_0 fullShare s) ∗ (∃ r, prngReg c r)) from rfl,
    show (dats m 0 c).Φ t.succ = iprop((∃ s, ⌜Good m c (t.val + 1) s⌝ ∗ owns (c : Thread nD τ) scM0_0 fullShare s) ∗ (∃ r, prngReg c r)) from rfl]
  by_cases h0 : t.val % 56 = 55
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t h0], after0_6]
    rw [show (dats m 0 c).leavesExact 7 t = owns (c : Thread nD τ) (ms0_7 t) fullShare ((dats m 0 c).after 7 t) from by
      unfold Dat.leavesExact; rw [liveAt0_7 t h0], after0_7]
    iintro ⟨⟨⟨%s, %hs, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runB c (grid0.coords t) _ _ _ _ _ _ _ _ _ _ _ _ _ _ _ _ _ _ ((hcond0_0 t).mpr h0) (iblk m c 0 t) (iblk m c 1 t) (iblk m c 2 t) (iblk m c 3 t) (iblk m c 4 t) s) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    iintro ⟨H0, H1, H2, H3, H4, H5, H6, H7, HS0⟩
    isplitl [HS0 Hg]
    · isplitl [HS0]
      · iexists _; isplitr; swap; · iexact HS0
        ipureintro
        show Good m c (t.val + 1) (put (grid0.coords t 1).val s (htileAt m c t))
        rw [coords1 t]
        exact Good.step m hs
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    rw [← Good.full m hs h0, ← coords1 t]
    isplitl [H6]; · iexact H6
    iexact H7
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [(dats m 0 c).leavesExact_idle 6 t (idle6 t h0) (noflush6 t h0), (dats m 0 c).leavesExact_idle 7 t (idle7 t h0) (noflush7 t h0)]
    iintro ⟨⟨⟨%s, %hs, HS0⟩, Hg⟩, Ho, ⟨%d0, H0⟩, ⟨%d1, H1⟩, ⟨%d2, H2⟩, ⟨%d3, H3⟩, ⟨%d4, H4⟩, ⟨%d5, H5⟩, H6, H7⟩
    iapply ((runA c (grid0.coords t) _ _ _ _ _ _ _ _ _ _ _ _ _ _ _ _ _ _ (fun h => h0 ((hcond0_0 t).mp h)) (iblk m c 0 t) (iblk m c 1 t) (iblk m c 2 t) (iblk m c 3 t) (iblk m c 4 t) s) Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    iintro ⟨H0, H1, H2, H3, H4, H5, HS0⟩
    isplitl [HS0 Hg]
    · isplitl [HS0]
      · iexists _; isplitr; swap; · iexact HS0
        ipureintro
        show Good m c (t.val + 1) (put (grid0.coords t 1).val s (htileAt m c t))
        rw [coords1 t]
        exact Good.step m hs
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body table's row at a point is the body. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

/-- The scratch's invariant before the first point. -/
theorem enter (c : Dev nD) : Pipeline.ΦA spec0 c ⊢ (dats (F := F) m 0 c).Φ 0 := by
  rw [PhiA0_eq, show (dats m 0 c).Φ 0 = iprop((∃ s, ⌜Good m c 0 s⌝ ∗ owns (c : Thread nD τ) scM0_0 fullShare s) ∗ (∃ r, prngReg c r)) from rfl]
  iintro ⟨⟨%d, H⟩, Hg⟩
  isplitl [H]
  · iexists d; isplitr; swap; · iexact H
    ipureintro
    exact fun u _ h => absurd h (Nat.not_lt_zero _)
  iexact Hg

/-- The scratch after the last point is at some contents. -/
theorem leave (c : Dev nD) : (dats (F := F) m 0 c).Φ (Fin.last cfg0.N) ⊢ Pipeline.ΦA spec0 c := by
  rw [PhiA0_eq, show (dats m 0 c).Φ (Fin.last cfg0.N) = iprop((∃ s, ⌜Good m c cfg0.N s⌝ ∗ owns (c : Thread nD τ) scM0_0 fullShare s) ∗ (∃ r, prngReg c r)) from rfl]
  iintro ⟨⟨%d, -, H⟩, Hg⟩
  isplitl [H]
  · iexists d; iexact H
  iexact Hg

set_option backward.isDefEq.respectTransparency.types false in
/-- The launch: every final state has the arrays as the data says and every semaphore counter at zero. -/
theorem run_main_quiescent : θ_run defs (onTc (τ := τ) (main (F := F))) (s₀ m ρ) (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := enter m) (hout := leave m)

/-- The run without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged and the counters end at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.KernelIdeal.Gen

end
-- ==== Proof.Expo.lean ====
module

public import Idealize.ShloMosaic.Lib.ValueIdx

@[expose] public section

/-! # The exponent of a row

The kernel finds the exponent field of the bounded row scale by a binary search on eight bits, comparing with the float
that a field alone denotes; the reference counts the powers of two not above the row scale. Here both are read as
numbers and shown to give the same exponent, and so the same scale and inverse scale. -/

namespace Cert.Expo
open Idealize.ShloMosaic

/-- The value of the float whose exponent field is `n` and whose other bits are zero. -/
noncomputable def pw (n : Nat) : EReal := Ideal.ofBits .f32 (BitVec.ofNat 32 n <<< 23)

theorem pw_zero : pw 0 = 0 := by
  unfold pw; simp [Ideal.ofBits, Ideal.ieee]

theorem pw_top : pw 255 = ⊤ := by
  unfold pw; simp [Ideal.ofBits, Ideal.ieee]

theorem field_toNat (n : Nat) (h : n < 256) :
    ((BitVec.ofNat 32 n <<< 23).extractLsb' 23 8).toNat = n := by
  rw [BitVec.extractLsb'_toNat, BitVec.toNat_shiftLeft, BitVec.toNat_ofNat, Nat.shiftLeft_eq, Nat.shiftRight_eq_div_pow]
  omega

theorem frac_toNat (n : Nat) (h : n < 256) :
    ((BitVec.ofNat 32 n <<< 23).extractLsb' 0 23).toNat = 0 := by
  rw [BitVec.extractLsb'_toNat, BitVec.toNat_shiftLeft, BitVec.toNat_ofNat, Nat.shiftLeft_eq, Nat.shiftRight_eq_div_pow]
  omega

theorem sign_eq (n : Nat) (h : n < 256) :
    (BitVec.ofNat 32 n <<< 23).extractLsb' 31 1 = 0#1 := by
  apply BitVec.eq_of_toNat_eq
  rw [BitVec.extractLsb'_toNat, BitVec.toNat_shiftLeft, BitVec.toNat_ofNat, Nat.shiftLeft_eq, Nat.shiftRight_eq_div_pow]
  simp only [BitVec.toNat_ofNat]
  omega

/-- Between 1 and 254 the field denotes a power of two. -/
theorem pw_mid (n : Nat) (h1 : 1 ≤ n) (h2 : n ≤ 254) : pw n = (((2 : ℝ) ^ ((n : ℤ) - 127) : ℝ) : EReal) := by
  have hn : n < 256 := by omega
  show Ideal.ieee 8 23 (BitVec.ofNat 32 n <<< 23) = _
  unfold Ideal.ieee
  simp only [Nat.reduceAdd, field_toNat n hn, frac_toNat n hn, sign_eq n hn]
  rw [if_neg (by norm_num; omega), if_neg (by omega)]
  congr 1
  have h3 : (2 : ℝ) ^ ((n : ℤ) - 127) = (2 : ℝ) ^ (23 : ℤ) * (2 : ℝ) ^ ((n : ℤ) - (2 ^ 7 - 1) - 23) := by
    rw [← zpow_add₀ (by norm_num)]; congr 1; ring
  rw [h3]
  norm_num

theorem pw_nonneg_mid (n : Nat) (h1 : 1 ≤ n) (h2 : n ≤ 254) : 0 < pw n := by
  rw [pw_mid n h1 h2]; exact EReal.coe_pos.2 (zpow_pos (by norm_num) _)

theorem pw_mono {m n : Nat} (h : m ≤ n) (hn : n ≤ 255) : pw m ≤ pw n := by
  rcases Nat.eq_zero_or_pos m with rfl | hm
  · rw [pw_zero]
    rcases Nat.eq_zero_or_pos n with rfl | hn'
    · rw [pw_zero]
    · by_cases h5 : n = 255
      · subst h5; rw [pw_top]; exact le_top
      · exact (pw_nonneg_mid n hn' (by omega)).le
  · by_cases h5 : n = 255
    · subst h5; rw [pw_top]; exact le_top
    · rw [pw_mid m hm (by omega), pw_mid n (by omega) (by omega), EReal.coe_le_coe_iff]
      exact zpow_le_zpow_right₀ (by norm_num) (by omega)

/-- One step of the search: add the bit unless that passes the number. -/
noncomputable def stepN (s : EReal) (n b : Nat) : Nat := open Classical in if s < pw (n + b) then n else n + b

/-- What the search keeps: the field found is not above the number, and adding the width left passes it. -/
structure Inv (s : EReal) (n w : Nat) : Prop where
  low : pw n ≤ s
  fit : n + w ≤ 256
  high : n + w < 256 → s < pw (n + w)

theorem Inv.step {s : EReal} {n b : Nat} (hb : 0 < b) (h : Inv s n (2 * b)) : Inv s (stepN s n b) b := by
  unfold stepN
  obtain ⟨h1, h2, h3⟩ := h
  split
  · next hs => exact ⟨h1, by omega, fun _ => hs⟩
  · next hs => exact ⟨not_lt.1 hs, by omega, fun h => by have := h3 (by omega); rwa [two_mul, ← add_assoc] at this⟩

/-- The whole search. -/
noncomputable def searchN (s : EReal) : Nat :=
  stepN s (stepN s (stepN s (stepN s (stepN s (stepN s (stepN s (stepN s 0 128) 64) 32) 16) 8) 4) 2) 1

theorem searchN_inv {s : EReal} (hs : 0 ≤ s) : Inv s (searchN s) 1 := by
  have h0 : Inv s 0 (2 * 128) := ⟨by rw [pw_zero]; exact hs, by omega, fun h => by omega⟩
  exact ((((((((h0.step (by omega)).step (b := 64) (by omega)).step (b := 32) (by omega)).step (b := 16) (by omega)).step
    (b := 8) (by omega)).step (b := 4) (by omega)).step (b := 2) (by omega)).step (b := 1) (by omega))

/-- The step as the kernel writes it, on words. -/
noncomputable def stepW (s : EReal) (f mid bit : BitVec 32) : BitVec 32 :=
  Scalar.select (Ideal.cmp .olt s (Ideal.ofBits .f32 (IntOp.shli .vector (IntOp.addi (IntOp.addi f mid) 127#32) 23#32)))
    f (IntOp.addi f bit)

theorem shli23 (x : BitVec 32) : IntOp.shli .vector x 23#32 = x <<< 23 := by
  simp [IntOp.shli]

theorem stepW_eq (s : EReal) (n b : Nat) (mid : BitVec 32) (hm : mid + 127#32 = BitVec.ofNat 32 b) :
    stepW s (BitVec.ofNat 32 n) mid (BitVec.ofNat 32 b) = BitVec.ofNat 32 (stepN s n b) := by
  unfold stepW stepN
  have e : IntOp.addi (IntOp.addi (BitVec.ofNat 32 n) mid) 127#32 = BitVec.ofNat 32 (n + b) := by
    show BitVec.ofNat 32 n + mid + 127#32 = _
    rw [BitVec.add_assoc, hm, BitVec.ofNat_add]
  rw [e, shli23]
  show Scalar.select (BitVec.ofBool (decide (s < pw (n + b)))) _ _ = _
  split
  · next h => rw [decide_eq_true h]; rfl
  · next h => rw [decide_eq_false h]; show BitVec.ofNat 32 n + BitVec.ofNat 32 b = _; rw [BitVec.ofNat_add]

/-- The search as the kernel writes it. -/
noncomputable def searchW (s : EReal) : BitVec 32 :=
  stepW s (stepW s (stepW s (stepW s (stepW s (stepW s (stepW s (stepW s 0#32 1#32 128#32) 4294967233#32 64#32)
    4294967201#32 32#32) 4294967185#32 16#32) 4294967177#32 8#32) 4294967173#32 4#32) 4294967171#32 2#32) 4294967170#32 1#32

theorem searchW_eq (s : EReal) : searchW s = BitVec.ofNat 32 (searchN s) := by
  unfold searchW searchN
  rw [stepW_eq s 0 128 1#32 (by decide), stepW_eq s _ 64 _ (by decide), stepW_eq s _ 32 _ (by decide),
    stepW_eq s _ 16 _ (by decide), stepW_eq s _ 8 _ (by decide), stepW_eq s _ 4 _ (by decide),
    stepW_eq s _ 2 _ (by decide), stepW_eq s _ 1 _ (by decide)]

/-- How many powers of two, from 2^-126 to 2^119, are not above `t`. -/
noncomputable def count (t : EReal) : Nat :=
  open Classical in (Finset.univ.filter fun k : Fin 246 => (((2 : ℝ) ^ ((k.val : ℤ) - 126) : ℝ) : EReal) ≤ t).card

theorem count_le (t : EReal) : count t ≤ 246 := by
  unfold count
  exact (Finset.card_filter_le _ _).trans (by simp)

/-- The exponent of a row scale. -/
noncomputable def expo (t : EReal) : ℤ := open Classical in if t = 0 ∨ t = ⊤ then 0 else (count t : ℤ) - 126

theorem expo_bounds (t : EReal) : -126 ≤ expo t ∧ expo t ≤ 120 := by
  have := count_le t
  unfold expo
  split <;> omega

/-- The row scale bounded as the kernel bounds it. -/
noncomputable def cap (t : EReal) : EReal :=
  Scalar.select (Ideal.cmp .oeq t (Ideal.ofBits .f32 0x7F800000#32)) t (min t (Ideal.ofBits .f32 0x7B000000#32))

theorem ofBits_top : Ideal.ofBits .f32 0x7F800000#32 = ⊤ := by simp [Ideal.ofBits, Ideal.ieee]
theorem ofBits_bot : Ideal.ofBits .f32 0xFF800000#32 = ⊥ := by simp [Ideal.ofBits, Ideal.ieee]
theorem ofBits_zero : Ideal.ofBits .f32 0x00000000#32 = 0 := by simp [Ideal.ofBits, Ideal.ieee]
theorem ofBits_max : Ideal.ofBits .f32 0x7B000000#32 = pw 246 := rfl

theorem cap_eq (t : EReal) : cap t = open Classical in if t = ⊤ then ⊤ else min t (pw 246) := by
  unfold cap
  rw [ofBits_top, ofBits_max]
  show Scalar.select (BitVec.ofBool (decide (t = ⊤))) _ _ = _
  split
  · next h => rw [decide_eq_true h, h]; rfl
  · next h => rw [decide_eq_false h]; rfl

theorem pw_lt_top (n : Nat) (h1 : 1 ≤ n) (h2 : n ≤ 254) : pw n < ⊤ := by
  rw [pw_mid n h1 h2]; exact EReal.coe_lt_top _

theorem cap_nonneg {t : EReal} (ht : 0 ≤ t) : 0 ≤ cap t := by
  rw [cap_eq]
  split
  · exact le_top
  · exact le_min ht (pw_nonneg_mid 246 (by omega) (by omega)).le

theorem cap_eq_zero {t : EReal} : cap t = 0 ↔ t = 0 := by
  rw [cap_eq]
  have h0 := pw_nonneg_mid 246 (by omega) (by omega)
  split
  · next h => subst h; simp
  · constructor
    · intro h
      rcases min_choice t (pw 246) with h1 | h1
      · rw [h1] at h; exact h
      · rw [h1] at h; exact absurd h h0.ne'
    · rintro rfl; exact min_eq_left h0.le

theorem search_top {t : EReal} (ht : 0 ≤ t) : searchN (cap t) = 255 ↔ t = ⊤ := by
  obtain ⟨h1, h2, h3⟩ := searchN_inv (cap_nonneg ht)
  constructor
  · intro h
    rw [h, pw_top, top_le_iff, cap_eq] at h1
    by_contra hne
    rw [if_neg hne] at h1
    have := min_le_right t (pw 246)
    rw [h1, top_le_iff] at this
    exact (pw_lt_top 246 (by omega) (by omega)).ne this
  · rintro rfl
    by_contra hne
    have := h3 (by omega)
    rw [cap_eq, if_pos rfl] at this
    exact absurd this not_top_lt

/-- Off zero and infinity the search finds the count. -/
theorem search_count {t : EReal} (ht : 0 ≤ t) (hT : t ≠ ⊤) : searchN (cap t) = count t := by
  obtain ⟨h1, h2, h3⟩ := searchN_inv (cap_nonneg ht)
  have hn : searchN (cap t) ≤ 246 := by
    by_contra hc
    have h4 : pw 247 ≤ cap t := (pw_mono (by omega) (by omega)).trans h1
    rw [cap_eq, if_neg hT] at h4
    have h5 := h4.trans (min_le_right _ _)
    rw [pw_mid 247 (by omega) (by omega), pw_mid 246 (by omega) (by omega), EReal.coe_le_coe_iff,
      zpow_le_zpow_iff_right₀ (by norm_num)] at h5
    omega
  have key : ∀ k : Fin 246, ((((2 : ℝ) ^ ((k.val : ℤ) - 126) : ℝ) : EReal) ≤ t) ↔ k.val < searchN (cap t) := by
    intro k
    have hk := k.isLt
    have e : (((2 : ℝ) ^ ((k.val : ℤ) - 126) : ℝ) : EReal) = pw (k.val + 1) := by
      rw [pw_mid (k.val + 1) (by omega) (by omega)]
      congr 2
      push_cast
      ring
    rw [e]
    have e2 : pw (k.val + 1) ≤ t ↔ pw (k.val + 1) ≤ cap t := by
      rw [cap_eq, if_neg hT, le_min_iff]
      exact ⟨fun h => ⟨h, pw_mono (by omega) (by omega)⟩, fun h => h.1⟩
    rw [e2]
    constructor
    · intro h
      by_contra hc
      exact absurd ((pw_mono (by omega) (by omega)).trans h) (not_le.2 (h3 (by omega)))
    · intro h
      exact (pw_mono (by omega) (by omega)).trans h1
  unfold count
  simp only [key]
  rw [show (Finset.univ.filter fun k : Fin 246 => k.val < searchN (cap t)) = (Finset.univ.map
    ⟨fun i : Fin (searchN (cap t)) => (⟨i.val, by omega⟩ : Fin 246), fun a b h => Fin.ext (by simpa using h)⟩) from ?_]
  · simp
  · ext k
    simp only [Finset.mem_filter, Finset.mem_univ, true_and, Finset.mem_map, Function.Embedding.coeFn_mk]
    exact ⟨fun h => ⟨⟨k.val, h⟩, rfl⟩, fun ⟨i, hi⟩ => by rw [← hi]; exact i.isLt⟩

theorem ofInt_sub32 (a b : ℤ) : BitVec.ofInt 32 (a - b) = BitVec.ofInt 32 a - BitVec.ofInt 32 b := by
  rw [sub_eq_add_neg, BitVec.ofInt_add, BitVec.ofInt_neg, BitVec.sub_eq_add_neg]

/-- The exponent as the kernel writes it, from the row's maximum and the bounded row scale. -/
noncomputable def expoW (a s : EReal) : BitVec 32 :=
  Scalar.select
    (IntOp.ori (IntOp.ori (Ideal.cmp .oeq s (Ideal.ofBits .f32 0x00000000#32))
      (Ideal.cmp .oeq a (Ideal.ofBits .f32 0x00000000#32))) (IntOp.cmpi .eq (searchW s) 255#32))
    0#32 (IntOp.subi (searchW s) 126#32)

/-- The kernel's exponent word is the exponent. -/
theorem expoW_eq {a t : EReal} (ht : 0 ≤ t) (h0 : a = 0 → t = 0) : expoW a (cap t) = BitVec.ofInt 32 (expo t) := by
  have hb := searchN_inv (cap_nonneg ht)
  have hle : searchN (cap t) ≤ 255 := by have := hb.fit; omega
  have e5 : (BitVec.ofNat 32 (searchN (cap t)) == 255#32) = decide (searchN (cap t) = 255) := by
    apply Bool.eq_iff_iff.2
    rw [beq_iff_eq, decide_eq_true_iff]
    constructor
    · intro h
      have := congrArg BitVec.toNat h
      simp only [BitVec.toNat_ofNat] at this
      omega
    · intro h; rw [h]
  unfold expoW
  rw [searchW_eq, ofBits_zero]
  show Scalar.select (((BitVec.ofBool (decide (cap t = 0))) ||| (BitVec.ofBool (decide (a = 0)))) |||
    BitVec.ofBool (BitVec.ofNat 32 (searchN (cap t)) == 255#32)) 0#32 (BitVec.ofNat 32 (searchN (cap t)) - 126#32) = _
  rw [e5]
  unfold expo
  by_cases hz : t = 0
  · rw [if_pos (Or.inl hz), decide_eq_true (cap_eq_zero.2 hz)]
    rcases decide (a = 0) <;> rcases decide (searchN (cap t) = 255) <;> rfl
  · by_cases hT : t = ⊤
    · rw [if_pos (Or.inr hT), decide_eq_true ((search_top ht).2 hT)]
      rcases decide (a = 0) <;> rcases decide (cap t = 0) <;> rfl
    · rw [if_neg (by tauto), decide_eq_false (fun h => hz (cap_eq_zero.1 h)), decide_eq_false (fun h => hz (h0 h)),
        decide_eq_false (fun h => hT ((search_top ht).1 h)), search_count ht hT]
      exact (ofInt_sub32 (count t) 126).symm

/-- The scale of a row and its inverse. -/
noncomputable def scale (t : EReal) : EReal := (((2 : ℝ) ^ expo t : ℝ) : EReal)
noncomputable def iscale (t : EReal) : EReal := (((2 : ℝ) ^ (- expo t) : ℝ) : EReal)

theorem bits_pow (e : ℤ) (h1 : -126 ≤ e) (h2 : e ≤ 127) :
    Ideal.ofBits .f32 (IntOp.shli .vector (IntOp.addi (BitVec.ofInt 32 e) 127#32) 23#32) = (((2 : ℝ) ^ e : ℝ) : EReal) := by
  have e1 : IntOp.addi (BitVec.ofInt 32 e) 127#32 = BitVec.ofNat 32 (e + 127).toNat := by
    show BitVec.ofInt 32 e + BitVec.ofInt 32 127 = _
    rw [← BitVec.ofInt_add, ← BitVec.ofInt_natCast, Int.toNat_of_nonneg (by omega)]
  rw [shli23, e1]
  have := pw_mid (e + 127).toNat (by omega) (by omega)
  unfold pw at this
  rw [this, Int.toNat_of_nonneg (by omega)]
  congr 2
  ring

theorem scaleW (t : EReal) :
    Ideal.ofBits .f32 (IntOp.shli .vector (IntOp.addi (BitVec.ofInt 32 (expo t)) 127#32) 23#32) = scale t := by
  have := expo_bounds t
  exact bits_pow _ (by omega) (by omega)

theorem iscaleW (t : EReal) :
    Ideal.ofBits .f32 (IntOp.shli .vector (IntOp.addi (IntOp.subi 0#32 (BitVec.ofInt 32 (expo t))) 127#32) 23#32)
      = iscale t := by
  have := expo_bounds t
  have e : IntOp.subi 0#32 (BitVec.ofInt 32 (expo t)) = BitVec.ofInt 32 (- expo t) := by
    show BitVec.ofInt 32 0 - BitVec.ofInt 32 (expo t) = _
    rw [← ofInt_sub32, zero_sub]
  rw [e]
  exact bits_pow _ (by omega) (by omega)

/-- The exponential the reference takes, at an integer. -/
theorem exp2_int (e : ℤ) : Ideal.exp2 (((e : ℝ)) : EReal) = (((2 : ℝ) ^ e : ℝ) : EReal) := by
  show ((Real.rpow 2 (e : ℝ) : ℝ) : EReal) = _
  congr 1
  exact Real.rpow_intCast 2 e

/-- The constant both sides multiply the row's maximum by is positive and finite. -/
theorem ofBits_c : ∃ r : ℝ, 0 < r ∧ Ideal.ofBits .f32 0x3B124925#32 = (r : EReal) := by
  refine ⟨_, ?_, by simp [Ideal.ofBits, Ideal.ieee, -EReal.coe_mul]; rfl⟩
  norm_num

end Cert.Expo
-- ==== Proof.Spec.lean ====
/- What the call computes, written on plain indices: the gate and up products of 8-bit floats unpacked from 32-bit
   words, the gated product, the row maximum, and the row's power-of-two scale. Both programs are read down to these
   functions. The file also reads, at an index, the reductions and the word unpacking that both programs use. -/
module

public import proofs.«01_k».proof.Proof.Expo
public import Idealize.ShloMosaic.Lib.ValueIdx
public import Idealize.ShloMosaic.Lib.ValueLayout
public import Idealize.ShloMosaic.Lib.ValueLayoutCasts
public import Idealize.ShloMosaic.Lib.MatmulPlain
public import Idealize.ShloMosaic.Lib.BitcastPair
public import Idealize.ShloMosaic.Lib.IndicatorCount

@[expose] public section

noncomputable section

namespace Cert.Spec

open Idealize.ShloMosaic Idealize.ShloMosaic.ValueIdx Cert.Expo

/-- Byte `k % 4` of a word, as the value of an 8-bit float. -/
def wt (w : BitVec 32) (k : Nat) : EReal := Ideal.ofBits .fp8e4m3 (w.extractLsb' (8 * (k % 4)) 8)

/-- The word of a weight: four consecutive rows share one. -/
def quarter (k : Fin 18432) : Fin 4608 := ⟨k.val / 4, by have := k.isLt; omega⟩

/-- One of the two products, scaled by row and by column. -/
def pre (X : Fin 18432 → EReal) (W : Fin 4608 → BitVec 32) (xs ws : EReal) : EReal :=
  (∑ k : Fin 18432, X k * wt (W (quarter k)) k.val) * xs * ws

/-- The gated product. -/
def gated (g u : EReal) : EReal := g * Ideal.logistic g * u

section Full

variable (X : Fin 6144 → Fin 18432 → EReal) (W : Fin 2 → Fin 4608 → Fin 7168 → BitVec 32)
  (xs : Fin 6144 → EReal) (ws : Fin 2 → Fin 7168 → EReal)

/-- The unrounded result at row `i`, column `n`. -/
def H (i : Fin 6144) (n : Fin 7168) : EReal :=
  gated (pre (X i) (fun k => W 0 k n) (xs i) (ws 0 n)) (pre (X i) (fun k => W 1 k n) (xs i) (ws 1 n))

end Full

/-- The largest magnitude of a family. -/
def amax {ι : Type} [Fintype ι] (f : ι → EReal) : EReal := Finset.univ.sup fun n => max (f n) (-(f n))

/-- The row scale before it is rounded to a power of two. -/
def rowT (a : EReal) : EReal := a * Ideal.ofBits .f32 0x3B124925#32

/-- A value times the inverse scale, clipped to the range of the 8-bit format. -/
def code (h inv : EReal) : EReal :=
  min (Ideal.ofBits .f32 0x43E00000#32) (max (Ideal.ofBits .f32 0xC3E00000#32) (h * inv))

theorem amax_nonneg {ι : Type} [Fintype ι] [Nonempty ι] (f : ι → EReal) : 0 ≤ amax f := by
  obtain ⟨n⟩ := ‹Nonempty ι›
  refine le_trans ?_ (Finset.le_sup (f := fun n => max (f n) (-(f n))) (Finset.mem_univ n))
  rcases le_total 0 (f n) with h | h
  · exact le_max_of_le_left h
  · exact le_max_of_le_right (EReal.neg_nonneg.2 h)

theorem rowT_nonneg {a : EReal} (h : 0 ≤ a) : 0 ≤ rowT a := by
  obtain ⟨r, hr, e⟩ := ofBits_c
  unfold rowT
  rw [e]
  exact mul_nonneg h (EReal.coe_nonneg.2 hr.le)

theorem rowT_zero {a : EReal} (h : a = 0) : rowT a = 0 := by unfold rowT; rw [h, zero_mul]

/-- A row maximum taken per column tile and then over the tile's lanes is the maximum over the row. -/
theorem amax_tiles (f : Fin 7168 → EReal) (g : Fin 56 → Fin 128 → EReal)
    (h : ∀ n l, g n l = f ⟨128 * n.val + l.val, by have := n.isLt; have := l.isLt; omega⟩) :
    (Finset.univ : Finset (Fin 128)).sup (fun l => (Finset.univ : Finset (Fin 56)).sup fun n => max (g n l) (-(g n l)))
      = amax f := by
  unfold amax
  apply le_antisymm
  · refine Finset.sup_le fun l _ => Finset.sup_le fun n _ => ?_
    rw [h]
    exact Finset.le_sup (f := fun n => max (f n) (-(f n))) (Finset.mem_univ _)
  · refine Finset.sup_le fun n _ => ?_
    have hn := n.isLt
    have e : f n = g ⟨n.val / 128, by omega⟩ ⟨n.val % 128, by omega⟩ := by
      rw [h]; congr 1; apply Fin.ext; show n.val = 128 * (n.val / 128) + n.val % 128; omega
    rw [e]
    refine le_trans ?_ (Finset.le_sup (Finset.mem_univ (⟨n.val % 128, by omega⟩ : Fin 128)))
    exact Finset.le_sup (f := fun m : Fin 56 => max (g m ⟨n.val % 128, by omega⟩) (-(g m ⟨n.val % 128, by omega⟩)))
      (Finset.mem_univ (⟨n.val / 128, by omega⟩ : Fin 56))

theorem fold_max_bot {ι : Type} (S : Finset ι) (f : ι → EReal) : S.fold max (⊥ : EReal) f = S.sup f := rfl

/-- Words read as bytes: result row `k` of a column is byte `k % 4` of source row `k / 4`. -/
theorem bitcast_bytes {R N : Nat} (x : (⟨2, ![R, N]⟩ : Shape).Idx → BitVec 32)
    (h : (⟨2, ![R, N]⟩ : Shape).Bitcasts 32 ⟨2, ![4 * R, N]⟩ 8) (k : Fin (4 * R)) (n : Fin N) :
    bitcast ⟨2, ![4 * R, N]⟩ 8 x h (ix2 k n)
      = (x (ix2 ⟨k.val / 4, by have := k.isLt; omega⟩ n)).extractLsb' (8 * (k.val % 4)) 8 := by
  apply BitVec.eq_of_getLsbD_eq
  intro i hi
  rw [bitcast_getLsbD x h _ i hi (by decide), BitVec.getLsbD_extractLsb']
  have er : (⟨2, ![4 * R, N]⟩ : Shape).row (ix2 k n) = k.val := rfl
  have ep : ((⟨2, ![4 * R, N]⟩ : Shape).row (ix2 k n) * 8 + i) / 32 = k.val / 4 := by rw [er]; omega
  have eq : ((⟨2, ![4 * R, N]⟩ : Shape).row (ix2 k n) * 8 + i) % 32 = 8 * (k.val % 4) + i := by rw [er]; omega
  rw [eq, decide_eq_true hi, Bool.true_and]
  congr 2
  funext a
  match a with
  | ⟨0, _⟩ => exact Fin.ext (by rw [h.srcIdx_row _ _ _ _ rfl]; exact ep)
  | ⟨1, _⟩ => exact Fin.ext (by rw [h.srcIdx_other _ _ _ _ (by show ¬ (1 + 2 = 2); omega)]; rfl)

/-- A row maximum, read at a row. -/
theorem rowMax_apply {a b : Nat} (x : FVec Ideal ⟨2, ![a, b]⟩ .f32) (h : (⟨2, ![a, b]⟩ : Shape).Reduces [1] ⟨1, ![a]⟩)
    (hφ : FKind.Formats .f32) (hacc : 0xFF800000#32 = FKind.maximumf.neutral .f32 hφ) (i : Fin a) :
    multiReduction .maximumf [1] ⟨1, ![a]⟩ x 0xFF800000#32 h hφ hacc (ix1 i)
      = (Finset.univ : Finset (Fin b)).sup fun l => x (ix2 i l) := by
  rw [Ideal.multiReduction_maximumf_single]
  show Finset.fold max (Ideal.ofBits .f32 0xFF800000#32) _ _ = _
  rw [ofBits_bot, fold_max_bot]
  congr 1
  funext l
  show x (h.lift (ix1 i) l) = _
  congr 1
  funext c
  match c with
  | ⟨0, _⟩ => rfl
  | ⟨1, _⟩ => rfl

/-- A maximum over the leading axis of three, read at the other two. -/
theorem leadMax_apply {a b c : Nat} (x : FVec Ideal ⟨3, ![a, b, c]⟩ .f32)
    (h : (⟨3, ![a, b, c]⟩ : Shape).Reduces [0] ⟨2, ![b, c]⟩) (hφ : FKind.Formats .f32)
    (hacc : 0xFF800000#32 = FKind.maximumf.neutral .f32 hφ) (i : Fin b) (l : Fin c) :
    multiReduction .maximumf [0] ⟨2, ![b, c]⟩ x 0xFF800000#32 h hφ hacc (ix2 i l)
      = (Finset.univ : Finset (Fin a)).sup fun n => x (ix3 n i l) := by
  rw [Ideal.multiReduction_maximumf_single]
  show Finset.fold max (Ideal.ofBits .f32 0xFF800000#32) _ _ = _
  rw [ofBits_bot, fold_max_bot]
  congr 1
  funext n
  show x (h.lift (ix2 i l) n) = _
  congr 1
  funext d
  match d with
  | ⟨0, _⟩ => rfl
  | ⟨1, _⟩ => rfl
  | ⟨2, _⟩ => rfl

/-- The largest magnitude over the leading axis and then over the lanes, read at a row. -/
theorem tileMax_apply {a b c : Nat} (x : FVec Ideal ⟨3, ![a, b, c]⟩ .f32)
    (h : (⟨3, ![a, b, c]⟩ : Shape).Reduces [0] ⟨2, ![b, c]⟩) (h' : (⟨2, ![b, c]⟩ : Shape).Reduces [1] ⟨1, ![b]⟩)
    (hφ : FKind.Formats .f32) (hacc : 0xFF800000#32 = FKind.maximumf.neutral .f32 hφ) (i : Fin b) :
    multiReduction .maximumf [1] ⟨1, ![b]⟩
        (multiReduction .maximumf [0] ⟨2, ![b, c]⟩ (absf x) 0xFF800000#32 h hφ hacc) 0xFF800000#32 h' hφ hacc (ix1 i)
      = (Finset.univ : Finset (Fin c)).sup fun l => (Finset.univ : Finset (Fin a)).sup fun n =>
          max (x (ix3 n i l)) (-(x (ix3 n i l))) := by
  rw [rowMax_apply]
  refine Finset.sup_congr rfl fun l _ => ?_
  rw [leadMax_apply]
  rfl

/-- The number of set bits in a row of one-bit conditions, read at a row. -/
theorem rowCount_apply {a b : Nat} (p : IVec ⟨2, ![a, b]⟩ 1) (hw : 1 < 32)
    (h : (⟨2, ![a, b]⟩ : Shape).Reduces [1] ⟨1, ![a]⟩) (hacc : (0#32 : BitVec 32) = IKind.add.neutral) (i : Fin a) :
    multiReductionI .add [1] ⟨1, ![a]⟩ (extui 32 p hw) 0#32 h hacc (ix1 i)
      = BitVec.ofNat 32 ((Finset.univ : Finset (Fin b)).filter fun l => p (ix2 i l) = 1#1).card := by
  rw [multiReductionI_eq_fold]
  show Finset.fold IntOp.addi _ _ _ = _
  rw [h.fold_filter_drop_single]
  have e : (extui 32 p hw ∘ h.lift (ix1 i) : Fin b → BitVec 32) = fun l : Fin b => (p (ix2 i l)).setWidth 32 := by
    funext l
    show (p (h.lift (ix1 i) l)).setWidth 32 = _
    congr 2
    funext c
    match c with
    | ⟨0, _⟩ => rfl
    | ⟨1, _⟩ => rfl
  exact (congrArg (fun f => Finset.fold IntOp.addi 0#32 f (Finset.univ : Finset (Fin b))) e).trans
    (IndicatorCount.fold_addi_setWidth_eq_card _ _)

/-- A column of row values laid over the row's lanes. -/
theorem broadcastTo_a1_ab_apply {α : Type} {a b : Nat} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Spec

end
-- ==== Proof.Tile.lean ====
/- One tile of the kernel and the last point's payloads, read at an index: the two products over the words' bytes, the
   row maximum in two steps, the exponent search, and the clipped codes. -/
module

public import proofs.«01_k».proof.Proof.Run
public import proofs.«01_k».proof.Proof.Spec

@[expose] public section

set_option maxRecDepth 16384

noncomputable section

namespace Cert.KernelIdeal.Gen

open Idealize.ShloMosaic Idealize.ShloMosaic.ValueIdx Cert.Expo Cert.Spec

/-- The words of a weight tile without the two unit axes. -/
theorem words_apply (v : Vec Ideal S1x1x4608x128 .i32) (p : Fin 4608) (l : Fin 128) :
    shapeCast S4608x128 v shapeCasts_S1x1x4608x128_S4608x128 (ix2 p l) = v (ix4 0 0 p l) :=
  shapeCast_apply v _ _ _ (by
    rw [Shape.rowMajor_val_two, Shape.rowMajor_val_four]
    simp)

/-- One weight of a tile. -/
theorem weight_apply (v : Vec Ideal S1x1x4608x128 .i32) (k : Fin 18432) (l : Fin 128) :
    bitcastToFloat (F := Ideal) .fp8e4m3 (bitcast S18432x128 8
      (shapeCast S4608x128 v shapeCasts_S1x1x4608x128_S4608x128) bitcasts_S4608x128_w32_S18432x128_w8) (ix2 k l)
      = wt (v (ix4 0 0 (quarter k) l)) k.val := by
  show Ideal.ofBits .fp8e4m3 (bitcast S18432x128 8 _ _ (ix2 k l)) = _
  unfold wt
  congr 1
  refine (bitcast_bytes (R := 4608) (N := 128) _ bitcasts_S4608x128_w32_S18432x128_w8 k l).trans ?_
  rw [words_apply]
  rfl

/-- The two weight tiles side by side: the left one. -/
theorem cat_left (a b : FVec Ideal S18432x128 .fp8e4m3) (k : Fin 18432) (l : Fin 128) :
    concatenate S18432x256 1 [⟨S18432x128, a⟩, ⟨S18432x128, b⟩] concatenates_S18432x128_S18432x128_S18432x256_d1
      (ix2 k ⟨l.val, by have := l.isLt; omega⟩) = a (ix2 k l) :=
  concatenate_pair_apply_left (t := S18432x256) 1 a b _ _ rfl (ix2 k l) (fun c => by
    match c with
    | ⟨0, _⟩ => rfl
    | ⟨1, _⟩ => rfl)

/-- The two weight tiles side by side: the right one. -/
theorem cat_right (a b : FVec Ideal S18432x128 .fp8e4m3) (k : Fin 18432) (l : Fin 128) :
    concatenate S18432x256 1 [⟨S18432x128, a⟩, ⟨S18432x128, b⟩] concatenates_S18432x128_S18432x128_S18432x256_d1
      (ix2 k ⟨128 + l.val, by have := l.isLt; omega⟩) = b (ix2 k l) :=
  concatenate_pair_apply_right (t := S18432x256) 1 a b _ _ rfl rfl (ix2 k l) (fun c hc => by
    match c, hc with
    | ⟨0, _⟩, _ => rfl
    | ⟨1, _⟩, hc => exact absurd rfl hc) (by show l.val + 128 = 128 + l.val; omega)

/-- The product of a row block with the two weight tiles, at an index. -/
theorem dot_apply (x : FVec Ideal S512x18432 .fp8e4m3) (w : FVec Ideal S18432x256 .fp8e4m3) (r : Fin 512) (j : Fin 256) :
    matmul dot_S512x18432_S18432x256_S512x256_1_0_0_1_n_n none x w (constant S512x256 .f32 0x00000000#32) (ix2 r j)
      = ∑ k : Fin 18432, x (ix2 r k) * w (ix2 k j) := by
  refine (Ideal.matmul_plain_apply (M := 512) (K := 18432) (N := 256) none x w _ r j).trans ?_
  show Ideal.ofBits .f32 0x00000000#32 + _ = _
  rw [ofBits_zero, zero_add]

/-- A column scale laid over the rows. -/
theorem colScale_apply (v : Vec Ideal S1x1x1x128 .f32) (r : Fin 512) (l : Fin 128) :
    broadcastTo S512x128 (shapeCast S1x128 (shapeCast S128 v shapeCasts_S1x1x1x128_S128) shapeCasts_S128_S1x128)
      broadcasts_S1x128_S512x128 (ix2 r l) = v (ix4 0 0 0 l) := by
  refine (broadcastTo_1b_ab_apply _ _ r l).trans ((shapeCast_a_1a_apply _ _ 0 l).trans ?_)
  exact shapeCast_apply v _ _ _ (by
    rw [Shape.rowMajor_val_one, Shape.rowMajor_val_four]
    simp)

/-- Both products of a tile side by side, scaled by row. -/
def pairV (v0 v3 : Vec Ideal S1x1x4608x128 .i32) (v7 : Vec Ideal S512x18432 .fp8e4m3) (v9 : Vec Ideal S512x1 .f32) :
    FVec Ideal S512x256 .f32 :=
  mulf (matmul (φ₁ := .fp8e4m3) (φ₂ := .fp8e4m3) dot_S512x18432_S18432x256_S512x256_1_0_0_1_n_n none v7
      (concatenate S18432x256 1
        [⟨S18432x128, bitcastToFloat (F := Ideal) .fp8e4m3 (bitcast S18432x128 8
            (shapeCast S4608x128 v0 shapeCasts_S1x1x4608x128_S4608x128) bitcasts_S4608x128_w32_S18432x128_w8)⟩,
         ⟨S18432x128, bitcastToFloat (F := Ideal) .fp8e4m3 (bitcast S18432x128 8
            (shapeCast S4608x128 v3 shapeCasts_S1x1x4608x128_S4608x128) bitcasts_S4608x128_w32_S18432x128_w8)⟩]
        concatenates_S18432x128_S18432x128_S18432x256_d1) (constant S512x256 .f32 0x00000000#32))
    (broadcastTo S512x256 v9 broadcasts_S512x1_S512x256)

/-- One half of the pair, scaled by column. -/
def halfV (o : Nat) (hs : S512x256.Slices ![0, o] S512x128) (p : FVec Ideal S512x256 .f32) (ws : Vec Ideal S1x1x1x128 .f32) :
    FVec Ideal S512x128 .f32 :=
  mulf (extractStridedSlice S512x128 ![0, o] p hs)
    (broadcastTo S512x128 (shapeCast S1x128 (shapeCast S128 ws shapeCasts_S1x1x1x128_S128) shapeCasts_S128_S1x128)
      broadcasts_S1x128_S512x128)

theorem pay80_eq (v0 v3 : Vec Ideal S1x1x4608x128 .i32) (v7 : Vec Ideal S512x18432 .fp8e4m3)
    (v9 : Vec Ideal S512x1 .f32) (v13 v19 : Vec Ideal S1x1x1x128 .f32) :
    k0_pay80 (F := Ideal) v0 v3 v7 v9 v13 v19
      = mulf (mulf (halfV 0 slices_S512x256_o0_0_S512x128 (pairV v0 v3 v7 v9) v13)
            (logistic (halfV 0 slices_S512x256_o0_0_S512x128 (pairV v0 v3 v7 v9) v13)))
          (halfV 128 slices_S512x256_o0_128_S512x128 (pairV v0 v3 v7 v9) v19) := rfl

theorem pairV_left (v0 v3 : Vec Ideal S1x1x4608x128 .i32) (v7 : Vec Ideal S512x18432 .fp8e4m3)
    (v9 : Vec Ideal S512x1 .f32) (r : Fin 512) (l : Fin 128) :
    pairV v0 v3 v7 v9 (ix2 r ⟨l.val, by have := l.isLt; omega⟩)
      = (∑ k : Fin 18432, v7 (ix2 r k) * wt (v0 (ix4 0 0 (quarter k) l)) k.val) * v9 (ix2 r 0) := by
  unfold pairV
  rw [mulf_apply, dot_apply, broadcastTo_a1_ab_apply]
  refine congrArg (fun b : EReal => b * v9 (ix2 r 0)) (Finset.sum_congr rfl fun k _ => ?_)
  rw [cat_left, weight_apply]

theorem pairV_right (v0 v3 : Vec Ideal S1x1x4608x128 .i32) (v7 : Vec Ideal S512x18432 .fp8e4m3)
    (v9 : Vec Ideal S512x1 .f32) (r : Fin 512) (l : Fin 128) :
    pairV v0 v3 v7 v9 (ix2 r ⟨128 + l.val, by have := l.isLt; omega⟩)
      = (∑ k : Fin 18432, v7 (ix2 r k) * wt (v3 (ix4 0 0 (quarter k) l)) k.val) * v9 (ix2 r 0) := by
  unfold pairV
  rw [mulf_apply, dot_apply, broadcastTo_a1_ab_apply]
  refine congrArg (fun b : EReal => b * v9 (ix2 r 0)) (Finset.sum_congr rfl fun k _ => ?_)
  rw [cat_right, weight_apply]

theorem halfV_apply (o : Nat) (hs : S512x256.Slices ![0, o] S512x128) (p : FVec Ideal S512x256 .f32)
    (ws : Vec Ideal S1x1x1x128 .f32) (r : Fin 512) (l : Fin 128) (j : Fin 256) (hj : j.val = o + l.val) :
    halfV o hs p ws (ix2 r l) = p (ix2 r j) * ws (ix4 0 0 0 l) := by
  unfold halfV
  rw [mulf_apply, slice2_axis1_apply o p hs r l j hj, colScale_apply]

theorem logistic_at {s : Shape} (x : FVec Ideal s .f32) (i : s.Idx) : logistic x i = Ideal.logistic (x i) := rfl

/-- One tile of the kernel at an index. -/
theorem pay80_apply (v0 v3 : Vec Ideal S1x1x4608x128 .i32) (v7 : Vec Ideal S512x18432 .fp8e4m3)
    (v9 : Vec Ideal S512x1 .f32) (v13 v19 : Vec Ideal S1x1x1x128 .f32) (r : Fin 512) (l : Fin 128) :
    k0_pay80 (F := Ideal) v0 v3 v7 v9 v13 v19 (ix2 r l)
      = gated (pre (fun k => v7 (ix2 r k)) (fun k => v0 (ix4 0 0 k l)) (v9 (ix2 r 0)) (v13 (ix4 0 0 0 l)))
          (pre (fun k => v7 (ix2 r k)) (fun k => v3 (ix4 0 0 k l)) (v9 (ix2 r 0)) (v19 (ix4 0 0 0 l))) := by
  have eg := (halfV_apply 0 slices_S512x256_o0_0_S512x128 (pairV v0 v3 v7 v9) v13 r l ⟨l.val, by have := l.isLt; omega⟩
    (Nat.zero_add _).symm).trans (congrArg (fun b : EReal => b * v13 (ix4 0 0 0 l)) (pairV_left v0 v3 v7 v9 r l))
  have eu := (halfV_apply 128 slices_S512x256_o0_128_S512x128 (pairV v0 v3 v7 v9) v19 r l
    ⟨128 + l.val, by have := l.isLt; omega⟩ rfl).trans
    (congrArg (fun b : EReal => b * v19 (ix4 0 0 0 l)) (pairV_right v0 v3 v7 v9 r l))
  rw [pay80_eq, mulf_apply, mulf_apply, logistic_at, eg, eu]
  rfl

/-- The row maximum over the tiles of a row block. -/
theorem pay3_apply (S : Vec Ideal S56x512x128 .f32) (r : Fin 512) :
    k0_pay3 (F := Ideal) S (ix2 r 0)
      = (Finset.univ : Finset (Fin 128)).sup fun l => (Finset.univ : Finset (Fin 56)).sup fun n =>
          max (S (ix3 n r l)) (-(S (ix3 n r l))) := by
  unfold k0_pay3
  exact (shapeCast_a_a1_apply _ _ r 0).trans
    (tileMax_apply S reduces_S56x512x128_S512x128 reduces_S512x128_S512 (.inl rfl) rfl r)

/-- The bounded row scale. -/
theorem pay4_apply (S : Vec Ideal S56x512x128 .f32) (r : Fin 512) :
    k0_pay4 (F := Ideal) S (ix2 r 0) = cap (rowT (k0_pay3 (F := Ideal) S (ix2 r 0))) := by
  unfold k0_pay4
  generalize k0_pay3 (F := Ideal) S = a
  rfl

/-- One step of the search on a column of rows. -/
def stepV {σ : Shape} (s : FVec Ideal σ .f32) (f : IVec σ 32) (mid bit : BitVec 32) : IVec σ 32 :=
  select (cmpf .olt s (bitcastToFloat .f32 (shli (addi (addi f (broadcast σ mid)) (broadcast σ 127#32))
    (broadcast σ 23#32)))) f (addi f (broadcast σ bit))

theorem stepV_apply {σ : Shape} (s : FVec Ideal σ .f32) (f : IVec σ 32) (mid bit : BitVec 32) (i : σ.Idx) :
    stepV s f mid bit i = stepW (s i) (f i) mid bit := rfl

/-- The search on a column of rows. -/
def searchV {σ : Shape} (s : FVec Ideal σ .f32) : IVec σ 32 :=
  stepV s (stepV s (stepV s (stepV s (stepV s (stepV s (stepV s (stepV s (broadcast σ 0#32) 1#32 128#32) 4294967233#32 64#32)
    4294967201#32 32#32) 4294967185#32 16#32) 4294967177#32 8#32) 4294967173#32 4#32) 4294967171#32 2#32) 4294967170#32 1#32

theorem searchV_apply {σ : Shape} (s : FVec Ideal σ .f32) (i : σ.Idx) : searchV s i = searchW (s i) := by
  unfold searchV searchW
  rw [stepV_apply, stepV_apply, stepV_apply, stepV_apply, stepV_apply, stepV_apply, stepV_apply, stepV_apply, broadcast_apply]

theorem pay5_eq (S : Vec Ideal S56x512x128 .f32) :
    k0_pay5 (F := Ideal) S
      = stepV (k0_pay4 S) (stepV (k0_pay4 S) (broadcast S512x1 0#32) 1#32 128#32) 4294967233#32 64#32 := by
  unfold k0_pay5
  generalize k0_pay4 (F := Ideal) S = s
  rfl

theorem pay6_eq (S : Vec Ideal S56x512x128 .f32) :
    k0_pay6 (F := Ideal) S
      = addi (addi (k0_pay5 (F := Ideal) S) (broadcast S512x1 4294967201#32)) (broadcast S512x1 127#32) := rfl

theorem pay8_eq (s : FVec Ideal S512x1 .f32) (f : IVec S512x1 32) :
    k0_pay8 (F := Ideal) s f (addi (addi f (broadcast S512x1 4294967201#32)) (broadcast S512x1 127#32)) k0_pay7
      = stepV s (stepV s (stepV s (stepV s f 4294967201#32 32#32) 4294967185#32 16#32) 4294967177#32 8#32) 4294967173#32 4#32 := rfl

theorem pay9_eq (s : FVec Ideal S512x1 .f32) (f g h : IVec S512x1 32) :
    k0_pay9 (F := Ideal) s f g h
      = addi (addi (k0_pay8 (F := Ideal) s f g h) (broadcast S512x1 4294967171#32)) (broadcast S512x1 127#32) := rfl

/-- The exponent from the field found. -/
def lastV {σ : Shape} (a s : FVec Ideal σ .f32) (f : IVec σ 32) : IVec σ 32 :=
  select (ori (ori (cmpf .oeq s (broadcast σ (Scalar.ofBits (F := Ideal) .f32 0x00000000#32)))
      (cmpf .oeq a (broadcast σ (Scalar.ofBits (F := Ideal) .f32 0x00000000#32))))
      (cmpi .eq f (broadcast σ 255#32)))
    (broadcast σ 0#32) (subi f (broadcast σ 126#32))

theorem pay11_eq (a s : FVec Ideal S512x1 .f32) (f : IVec S512x1 32) :
    k0_pay11 (F := Ideal) a s f (addi (addi f (broadcast S512x1 4294967171#32)) (broadcast S512x1 127#32)) k0_pay10
      = lastV a s (stepV s (stepV s f 4294967171#32 2#32) 4294967170#32 1#32) := rfl

/-- The exponent from the field found, for one row. -/
def lastW (a s : EReal) (f : BitVec 32) : BitVec 32 :=
  Scalar.select
    (IntOp.ori (IntOp.ori (Ideal.cmp .oeq s (Ideal.ofBits .f32 0x00000000#32))
      (Ideal.cmp .oeq a (Ideal.ofBits .f32 0x00000000#32))) (IntOp.cmpi .eq f 255#32))
    0#32 (IntOp.subi f 126#32)

theorem lastV_apply {σ : Shape} (a s : FVec Ideal σ .f32) (f : IVec σ 32) (i : σ.Idx) :
    lastV a s f i = lastW (a i) (s i) (f i) := rfl

theorem expoW_last (a s : EReal) : expoW a s = lastW a s (searchW s) := by
  unfold expoW lastW
  generalize searchW s = f
  rfl

/-- The exponent word. -/
theorem pay11_apply (S : Vec Ideal S56x512x128 .f32) (r : Fin 512) :
    k0_pay11 (F := Ideal) (k0_pay3 S) (k0_pay4 S) (k0_pay8 (k0_pay4 S) (k0_pay5 S) (k0_pay6 S) k0_pay7)
      (k0_pay9 (k0_pay4 S) (k0_pay5 S) (k0_pay6 S) k0_pay7) k0_pay10 (ix2 r 0)
      = expoW (k0_pay3 (F := Ideal) S (ix2 r 0)) (k0_pay4 (F := Ideal) S (ix2 r 0)) := by
  rw [expoW_last, ← searchV_apply, ← lastV_apply, pay9_eq, pay11_eq, pay6_eq, pay8_eq, pay5_eq]
  unfold searchV
  with_reducible rfl

/-- The whole scratch read as the kernel reads it. -/
theorem all_eq (S : Vec Ideal S56x512x128 .f32) : all S = S := by
  unfold all
  exact View.ld_unit_zero (by funext a; match a with | ⟨0, _⟩ => rfl | ⟨1, _⟩ => rfl | ⟨2, _⟩ => rfl) _ _

/-- The row maximum of the tiles, when they are the tiles of a row `f`. -/
theorem rowMax_tiles (S : Vec Ideal S56x512x128 .f32) (r : Fin 512) (f : Fin 7168 → EReal)
    (h : ∀ n l, S (ix3 n r l) = f ⟨128 * n.val + l.val, by have := n.isLt; have := l.isLt; omega⟩) :
    k0_pay3 (F := Ideal) S (ix2 r 0) = amax f :=
  (pay3_apply S r).trans (amax_tiles f (fun n l => S (ix3 n r l)) h)

/-- The exponent word of a row. -/
theorem expo_row (S : Vec Ideal S56x512x128 .f32) (r : Fin 512) (f : Fin 7168 → EReal)
    (h : ∀ n l, S (ix3 n r l) = f ⟨128 * n.val + l.val, by have := n.isLt; have := l.isLt; omega⟩) :
    k0_pay11 (F := Ideal) (k0_pay3 S) (k0_pay4 S) (k0_pay8 (k0_pay4 S) (k0_pay5 S) (k0_pay6 S) k0_pay7)
      (k0_pay9 (k0_pay4 S) (k0_pay5 S) (k0_pay6 S) k0_pay7) k0_pay10 (ix2 r 0)
      = BitVec.ofInt 32 (expo (rowT (amax f))) := by
  rw [pay11_apply, pay4_apply, rowMax_tiles S r f h]
  exact expoW_eq (rowT_nonneg (amax_nonneg f)) rowT_zero

/-- The scale the last point stores. -/
theorem out9_apply (S : Vec Ideal S56x512x128 .f32) (r : Fin 512) (f : Fin 7168 → EReal)
    (h : ∀ n l, S (ix3 n r l) = f ⟨128 * n.val + l.val, by have := n.isLt; have := l.isLt; omega⟩) :
    out9 (F := Ideal) S (ix2 r 0) = scale (rowT (amax f)) := by
  unfold out9
  rw [all_eq]
  show Ideal.ofBits .f32 (IntOp.shli .vector (IntOp.addi (k0_pay11 (F := Ideal) _ _ _ _ _ (ix2 r 0)) 127#32) 23#32) = _
  rw [expo_row S r f h]
  exact scaleW _

/-- The inverse scale of the last point. -/
theorem inv9_apply (S : Vec Ideal S56x512x128 .f32) (r : Fin 512) (f : Fin 7168 → EReal)
    (h : ∀ n l, S (ix3 n r l) = f ⟨128 * n.val + l.val, by have := n.isLt; have := l.isLt; omega⟩) :
    inv9 (F := Ideal) S (ix2 r 0) = iscale (rowT (amax f)) := by
  unfold inv9
  rw [all_eq]
  show Ideal.ofBits .f32 (IntOp.shli .vector (IntOp.addi (IntOp.subi 0#32 (k0_pay11 (F := Ideal) _ _ _ _ _ (ix2 r 0)))
    127#32) 23#32) = _
  rw [expo_row S r f h]
  exact iscaleW _

/-- The codes the last point stores for one tile. -/
theorem code8_apply (S : Vec Ideal S56x512x128 .f32) (n : Fin 56) (r : Fin 512) (l : Fin 128) (f : Fin 7168 → EReal)
    (h : ∀ n l, S (ix3 n r l) = f ⟨128 * n.val + l.val, by have := n.isLt; have := l.isLt; omega⟩) :
    code8 (F := Ideal) S n (ix2 r l)
      = code (f ⟨128 * n.val + l.val, by have := n.isLt; have := l.isLt; omega⟩) (iscale (rowT (amax f))) := by
  have e1 : k0_pay14 (F := Ideal) (inv9 S) (ix2 r l) = iscale (rowT (amax f)) := by
    unfold k0_pay14
    exact (broadcastTo_a1_ab_apply _ broadcasts_S512x1_S512x128 r l).trans
      ((shapeCast_apply _ _ _ (ix2 r 0) rfl).trans (inv9_apply S r f h))
  have e2 : shapeCast S512x128 (View.ld S (Rect.unit (s := S56x512x128) ![n.val, 0, 0] S1x512x128.size (inb10 n)))
      shapeCasts_S1x512x128_S512x128 (ix2 r l) = S (ix3 n r l) := by
    refine (shapeCast_1ab_ab_apply _ _ r l).trans ?_
    show S (Rect.emb _ _) = _
    congr 1
    funext a
    match a with
    | ⟨0, _⟩ => exact Fin.ext (by show n.val + 1 * 0 = n.val; omega)
    | ⟨1, _⟩ => exact Fin.ext (by show 0 + 1 * r.val = r.val; omega)
    | ⟨2, _⟩ => exact Fin.ext (by show 0 + 1 * l.val = l.val; omega)
  unfold code8
  show min (Ideal.ofBits .f32 0x43E00000#32) (max (Ideal.ofBits .f32 0xC3E00000#32)
    (shapeCast S512x128 (View.ld S _) shapeCasts_S1x512x128_S512x128 (ix2 r l) * k0_pay14 (F := Ideal) (inv9 S) (ix2 r l))) = _
  rw [e1, e2, h]
  rfl

end Cert.KernelIdeal.Gen

end
-- ==== Proof.Result.lean ====
/- What each result array holds, as a function of the four argument arrays: the gated product, its codes and its row
   scales. The weight words are given by column tile. -/
module

public import proofs.«01_k».proof.Proof.Spec

@[expose] public section

noncomputable section

namespace Cert.Spec

open Idealize.ShloMosaic Idealize.ShloMosaic.ValueIdx Cert.Expo

variable (a0 : (⟨2, ![6144, 18432]⟩ : Shape).Idx → EReal) (a1 : (⟨4, ![2, 56, 4608, 128]⟩ : Shape).Idx → BitVec 32)
  (a2 : (⟨2, ![6144, 1]⟩ : Shape).Idx → EReal) (a3 : (⟨2, ![2, 7168]⟩ : Shape).Idx → EReal)

/-- The weight word of half `q`, word row `k` and column `n`. -/
def word (q : Fin 2) (k : Fin 4608) (n : Fin 7168) : BitVec 32 :=
  a1 (ix4 q ⟨n.val / 128, by have := n.isLt; omega⟩ k ⟨n.val % 128, by omega⟩)

/-- The unrounded result. -/
def hid (i : Fin 6144) (n : Fin 7168) : EReal :=
  H (fun i k => a0 (ix2 i k)) (word a1) (fun i => a2 (ix2 i 0)) (fun q n => a3 (ix2 q n)) i n

/-- The first result. -/
def res0 : (⟨2, ![6144, 7168]⟩ : Shape).Idx → EReal := fun j => hid a0 a1 a2 a3 (j 0) (j 1)

/-- The second result: the codes. -/
def res1 : (⟨2, ![6144, 7168]⟩ : Shape).Idx → EReal := fun j =>
  code (hid a0 a1 a2 a3 (j 0) (j 1)) (iscale (rowT (amax (hid a0 a1 a2 a3 (j 0)))))

/-- The third result: the row scales. -/
def res2 : (⟨2, ![6144, 1]⟩ : Shape).Idx → EReal := fun j => scale (rowT (amax (hid a0 a1 a2 a3 (j 0))))

/-- The column scales split into column tiles. -/
theorem split_scales {α : Type} (x : (⟨2, ![2, 7168]⟩ : Shape).Idx → α)
    (h : (⟨2, ![2, 7168]⟩ : Shape).ShapeCasts ⟨4, ![2, 56, 1, 128]⟩) (q : Fin 2) (b : Fin 56) (l : Fin 128) :
    shapeCast ⟨4, ![2, 56, 1, 128]⟩ x h (ix4 q b 0 l)
      = x (ix2 q ⟨128 * b.val + l.val, by have := b.isLt; have := l.isLt; omega⟩) :=
  shapeCast_apply x h _ _ (by
    rw [Shape.rowMajor_val_two, Shape.rowMajor_val_four]
    show q.val * 7168 + (128 * b.val + l.val) = ((q.val * 56 + b.val) * 1 + 0) * 128 + l.val
    omega)

/-- The column tiles joined into columns. -/
theorem join_words {α : Type} (x : (⟨4, ![2, 4608, 56, 128]⟩ : Shape).Idx → α)
    (h : (⟨4, ![2, 4608, 56, 128]⟩ : Shape).ShapeCasts ⟨3, ![2, 4608, 7168]⟩) (q : Fin 2) (k : Fin 4608) (n : Fin 7168) :
    shapeCast ⟨3, ![2, 4608, 7168]⟩ x h (ix3 q k n)
      = x (ix4 q k ⟨n.val / 128, by have := n.isLt; omega⟩ ⟨n.val % 128, by omega⟩) :=
  shapeCast_apply x h _ _ (by
    rw [Shape.rowMajor_val_three, Shape.rowMajor_val_four]
    show ((q.val * 4608 + k.val) * 56 + n.val / 128) * 128 + n.val % 128 = (q.val * 4608 + k.val) * 7168 + n.val
    omega)

end Cert.Spec

end
-- ==== Proof.Arrays.lean ====
/- The kernel's result arrays as functions of its arguments. -/
module

public import proofs.«01_k».proof.Proof.Body
public import proofs.«01_k».proof.Proof.Tile
public import proofs.«01_k».proof.Proof.Result
public import Idealize.ShloMosaic.Lib.Pipeline.ValueKit.Geometry

@[expose] public section

set_option maxRecDepth 16384

noncomputable section

namespace Cert.KernelIdeal.Gen

open Idealize.ShloMosaic Idealize.ShloMosaic.TcCoe Idealize.ShloMosaic.ValueIdx Cert.Expo Cert.Spec
open Idealize.ShloMosaic.Pipeline (Dat)

variable (m : (ℓ : Loc nD τ sig) → Buf (Elt Ideal) ℓ) (ρ : Dev nD → PrngReg)

/-! ## The blocks' positions -/

theorem idx : ∀ t : Fin cfg0.N, win0_0.index t = ![t.val / 56, 0] ∧ win0_1.index t = ![0, t.val % 56, 0, 0]
    ∧ win0_2.index t = ![1, t.val % 56, 0, 0] ∧ win0_3.index t = ![t.val / 56, 0] ∧ win0_4.index t = ![0, t.val % 56, 0, 0]
    ∧ win0_5.index t = ![t.val / 56, t.val % 56] ∧ win0_6.index t = ![t.val / 56, 0] ∧ win0_7.index t = ![t.val / 56, 0] :=
  (by decide +kernel : ∀ t : Fin grid0.N, _)

theorem ix_0 (t : Fin cfg0.N) : win0_0.index t = ![t.val / 56, 0] := (idx t).1
theorem ix_1 (t : Fin cfg0.N) : win0_1.index t = ![0, t.val % 56, 0, 0] := (idx t).2.1
theorem ix_2 (t : Fin cfg0.N) : win0_2.index t = ![1, t.val % 56, 0, 0] := (idx t).2.2.1
theorem ix_3 (t : Fin cfg0.N) : win0_3.index t = ![t.val / 56, 0] := (idx t).2.2.2.1
theorem ix_4 (t : Fin cfg0.N) : win0_4.index t = ![0, t.val % 56, 0, 0] := (idx t).2.2.2.2.1
theorem ix_5 (t : Fin cfg0.N) : win0_5.index t = ![t.val / 56, t.val % 56] := (idx t).2.2.2.2.2.1
theorem ix_6 (t : Fin cfg0.N) : win0_6.index t = ![t.val / 56, 0] := (idx t).2.2.2.2.2.2.1
theorem ix_7 (t : Fin cfg0.N) : win0_7.index t = ![t.val / 56, 0] := (idx t).2.2.2.2.2.2.2

/-- The column scales laid out by column tile, as the region finds them. -/
theorem V_scales (c : Dev nD) : V m c main_v0
    = shapeCast S2x56x1x128 (m ((c : Thread nD τ).loc main_arg3)) shapeCasts_S2x7168_S2x56x1x128 := by
  entry_read
  rfl

theorem scales_apply (c : Dev nD) (q : Fin 2) (b : Fin 56) (l : Fin 128) :
    V m c main_v0 (ix4 q b 0 l)
      = m ((c : Thread nD τ).loc main_arg3) (ix2 q ⟨128 * b.val + l.val, by have := b.isLt; have := l.isLt; omega⟩) := by
  rw [V_scales]
  exact split_scales _ _ q b l

/-- The row of the array that row `r` of point `t`'s block is. -/
def rowAt (t : Fin cfg0.N) (r : Fin 512) : Fin 6144 :=
  ⟨512 * (t.val / 56) + r.val, by have := lt672 t; have := r.isLt; omega⟩

/-- The column of the array that lane `l` of point `t`'s block is. -/
def colAt (t : Fin cfg0.N) (l : Fin 128) : Fin 7168 :=
  ⟨128 * (t.val % 56) + l.val, by have := l.isLt; omega⟩

/-- The column tile of point `t`. -/
def tileAt (t : Fin cfg0.N) : Fin 56 := ⟨t.val % 56, by omega⟩

theorem blk0 (c : Dev nD) (t : Fin cfg0.N) (r : Fin 512) (k : Fin 18432) :
    iblk m c 0 t (ix2 r k) = m ((c : Thread nD τ).loc main_arg0) (ix2 (rowAt t r) k) := by
  blk_simp [iblk, ix_0 t]
  rw [V_main_arg0]
  congr 1
  blk_ext [ix_0 t]
  show t.val / 56 * 512 + r.val = 512 * (t.val / 56) + r.val
  omega

theorem blk1 (c : Dev nD) (t : Fin cfg0.N) (k : Fin 4608) (l : Fin 128) :
    iblk m c 1 t (ix4 0 0 k l) = m ((c : Thread nD τ).loc main_arg1) (ix4 0 (tileAt t) k l) := by
  blk_simp [iblk, ix_1 t]
  rw [V_main_arg1]
  congr 1
  blk_ext [ix_1 t]
  rfl

theorem blk2 (c : Dev nD) (t : Fin cfg0.N) (k : Fin 4608) (l : Fin 128) :
    iblk m c 2 t (ix4 0 0 k l) = m ((c : Thread nD τ).loc main_arg1) (ix4 1 (tileAt t) k l) := by
  blk_simp [iblk, ix_2 t]
  rw [V_main_arg1]
  congr 1
  blk_ext [ix_2 t]
  rfl

theorem blk3 (c : Dev nD) (t : Fin cfg0.N) (r : Fin 512) :
    iblk m c 3 t (ix2 r 0) = m ((c : Thread nD τ).loc main_arg2) (ix2 (rowAt t r) 0) := by
  blk_simp [iblk, ix_3 t]
  rw [V_main_arg2]
  congr 1
  blk_ext [ix_3 t]
  show t.val / 56 * 512 + r.val = 512 * (t.val / 56) + r.val
  omega

theorem blk4 (c : Dev nD) (t : Fin cfg0.N) (q : Fin 2) (l : Fin 128) :
    iblk m c 4 t (ix4 q 0 0 l) = m ((c : Thread nD τ).loc main_arg3) (ix2 q (colAt t l)) := by
  refine Eq.trans ?_ (scales_apply m c q (tileAt t) l)
  blk_simp [iblk, ix_4 t]
  congr 1
  blk_ext [ix_4 t]
  rfl

/-! ## A tile -/

theorem htile_apply (x0 : Vec Ideal S512x18432 .fp8e4m3) (x1 x2 : Vec Ideal S1x1x4608x128 .i32) (x3 : Vec Ideal S512x1 .f32)
    (x4 : Vec Ideal S2x1x1x128 .f32) (r : Fin 512) (l : Fin 128) :
    htile x0 x1 x2 x3 x4 (ix2 r l)
      = gated (pre (fun k => x0 (ix2 r k)) (fun k => x1 (ix4 0 0 k l)) (x3 (ix2 r 0)) (x4 (ix4 0 0 0 l)))
          (pre (fun k => x0 (ix2 r k)) (fun k => x2 (ix4 0 0 k l)) (x3 (ix2 r 0)) (x4 (ix4 1 0 0 l))) := by
  have z2 : (![0, 0] : Fin 2 → Nat) = fun _ => 0 := by
    funext a; match a with | ⟨0, _⟩ => rfl | ⟨1, _⟩ => rfl
  have z4 : (![0, 0, 0, 0] : Fin 4 → Nat) = fun _ => 0 := by
    funext a; match a with | ⟨0, _⟩ => rfl | ⟨1, _⟩ => rfl | ⟨2, _⟩ => rfl | ⟨3, _⟩ => rfl
  unfold htile
  rw [pay80_apply, View.ld_unit_zero z4 inb_S1x1x4608x128_S1x1x4608x128_0_0_0_0 x1,
    View.ld_unit_zero z4 inb_S1x1x4608x128_S1x1x4608x128_0_0_0_0 x2, View.ld_unit_zero z2 inb_S512x18432_S512x18432_0_0 x0,
    View.ld_unit_zero z2 inb_S512x1_S512x1_0_0 x3]
  have e0 : View.ld x4 (Rect.unit ![0, 0, 0, 0] S1x1x1x128.size inb_S2x1x1x128_S1x1x1x128_0_0_0_0) (ix4 0 0 0 l)
      = x4 (ix4 0 0 0 l) := by
    show x4 (Rect.emb _ _) = _
    congr 1
    funext a
    match a with
    | ⟨0, _⟩ => rfl
    | ⟨1, _⟩ => rfl
    | ⟨2, _⟩ => rfl
    | ⟨3, _⟩ => exact Fin.ext (by show 0 + 1 * l.val = l.val; omega)
  have e1 : View.ld x4 (Rect.unit ![1, 0, 0, 0] S1x1x1x128.size inb_S2x1x1x128_S1x1x1x128_1_0_0_0) (ix4 0 0 0 l)
      = x4 (ix4 1 0 0 l) := by
    show x4 (Rect.emb _ _) = _
    congr 1
    funext a
    match a with
    | ⟨0, _⟩ => rfl
    | ⟨1, _⟩ => rfl
    | ⟨2, _⟩ => rfl
    | ⟨3, _⟩ => exact Fin.ext (by show 0 + 1 * l.val = l.val; omega)
  rw [e0, e1]

/-- The unrounded result of the launch's arguments. -/
abbrev hidOf (c : Dev nD) : Fin 6144 → Fin 7168 → EReal :=
  hid (m ((c : Thread nD τ).loc main_arg0)) (m ((c : Thread nD τ).loc main_arg1)) (m ((c : Thread nD τ).loc main_arg2))
    (m ((c : Thread nD τ).loc main_arg3))

theorem word_at (a : (⟨4, ![2, 56, 4608, 128]⟩ : Shape).Idx → BitVec 32) (q : Fin 2) (t : Fin cfg0.N) (k : Fin 4608)
    (l : Fin 128) : word a q k (colAt t l) = a (ix4 q (tileAt t) k l) := by
  have hl := l.isLt
  have e1 : (⟨(colAt t l).val / 128, by have := (colAt t l).isLt; omega⟩ : Fin 56) = tileAt t :=
    Fin.ext (by show (128 * (t.val % 56) + l.val) / 128 = t.val % 56; omega)
  have e2 : (⟨(colAt t l).val % 128, by omega⟩ : Fin 128) = l :=
    Fin.ext (by show (128 * (t.val % 56) + l.val) % 128 = l.val; omega)
  unfold word
  rw [e1, e2]

/-- The tile computed at a point is its part of the unrounded result. -/
theorem htileAt_apply (c : Dev nD) (t : Fin cfg0.N) (r : Fin 512) (l : Fin 128) :
    htileAt m c t (ix2 r l) = hidOf m c (rowAt t r) (colAt t l) := by
  unfold htileAt hidOf hid H
  rw [htile_apply, blk3, blk4, blk4]
  congr 2
  · funext k; exact blk0 m c t r k
  · funext k; exact (blk1 m c t k l).trans (word_at _ 0 t k l).symm
  · funext k; exact blk0 m c t r k
  · funext k; exact (blk2 m c t k l).trans (word_at _ 1 t k l).symm

/-- The row block's tiles are the rows of the unrounded result. -/
theorem rowTiles_apply (c : Dev nD) (t : Fin cfg0.N) (r : Fin 512) (n : Fin 56) (l : Fin 128) :
    rowTiles m c t (ix3 n r l)
      = hidOf m c (rowAt t r) ⟨128 * n.val + l.val, by have := n.isLt; have := l.isLt; omega⟩ := by
  show htileAt m c (rowPt t n) (ix2 r l) = _
  have hn := n.isLt
  rw [htileAt_apply]
  congr 1
  · exact Fin.ext (by show 512 * ((56 * (t.val / 56) + n.val) / 56) + r.val = 512 * (t.val / 56) + r.val; omega)
  · exact Fin.ext (by show 128 * ((56 * (t.val / 56) + n.val) % 56) + l.val = 128 * n.val + l.val; omega)

/-! ## The result arrays -/

theorem emb5 (t : Fin cfg0.N) (r : Fin 512) (l : Fin 128) :
    (win0_5.blk t).view.emb (ix2 r l) = ix2 (rowAt t r) (colAt t l) := by
  blk_ext [ix_5 t]
  · show t.val / 56 * 512 + r.val = 512 * (t.val / 56) + r.val
    omega
  · show t.val % 56 * 128 + l.val = 128 * (t.val % 56) + l.val
    omega

theorem emb6 (t : Fin cfg0.N) (r : Fin 512) (n : Fin 7168) : (win0_6.blk t).view.emb (ix2 r n) = ix2 (rowAt t r) n := by
  blk_ext [ix_6 t]
  show t.val / 56 * 512 + r.val = 512 * (t.val / 56) + r.val
  omega

theorem emb7 (t : Fin cfg0.N) (r : Fin 512) : (win0_7.blk t).view.emb (ix2 r 0) = ix2 (rowAt t r) 0 := by
  blk_ext [ix_7 t]
  show t.val / 56 * 512 + r.val = 512 * (t.val / 56) + r.val
  omega

/-- The first result. -/
theorem out5 (c : Dev nD) : (dats m 0 c).arrAt 5 cfg0.N
    = res0 (m ((c : Thread nD τ).loc main_arg0)) (m ((c : Thread nD τ).loc main_arg1))
        (m ((c : Thread nD τ).loc main_arg2)) (m ((c : Thread nD τ).loc main_arg3)) := by
  refine (dats m 0 c).arrAt_eq_of_covers 5 _ (by decide +kernel) fun t hf y => ?_
  blk_simp
  rw [after0_5]
  obtain ⟨r, l, rfl⟩ : ∃ r : Fin 512, ∃ l : Fin 128, y = ix2 r l := ⟨y 0, y 1, eq_ix2 (n0 := 512) (n1 := 128) y⟩
  rw [emb5]
  exact htileAt_apply m c t r l

theorem out8_apply (S : Vec Ideal S56x512x128 .f32) (r : Fin 512) (n : Fin 7168) (f : Fin 7168 → EReal)
    (h : ∀ n l, S (ix3 n r l) = f ⟨128 * n.val + l.val, by have := n.isLt; have := l.isLt; omega⟩) :
    out8 (F := Ideal) S (ix2 r n) = code (f n) (iscale (rowT (amax f))) := by
  have hn := n.isLt
  refine (code8_apply S ⟨n.val / 128, by omega⟩ r ⟨n.val % 128, by omega⟩ f h).trans ?_
  congr 2
  exact Fin.ext (by show 128 * (n.val / 128) + n.val % 128 = n.val; omega)

/-- The second result. -/
theorem out6 (c : Dev nD) : (dats m 0 c).arrAt 6 cfg0.N
    = res1 (m ((c : Thread nD τ).loc main_arg0)) (m ((c : Thread nD τ).loc main_arg1))
        (m ((c : Thread nD τ).loc main_arg2)) (m ((c : Thread nD τ).loc main_arg3)) := by
  refine (dats m 0 c).arrAt_eq_of_covers 6 _ (by decide +kernel) fun t hf y => ?_
  blk_simp
  rw [after0_6]
  obtain ⟨r, n, rfl⟩ : ∃ r : Fin 512, ∃ n : Fin 7168, y = ix2 r n := ⟨y 0, y 1, eq_ix2 (n0 := 512) (n1 := 7168) y⟩
  rw [emb6]
  exact out8_apply (rowTiles m c t) r n (hidOf m c (rowAt t r)) (rowTiles_apply m c t r)

/-- The third result. -/
theorem out7 (c : Dev nD) : (dats m 0 c).arrAt 7 cfg0.N
    = res2 (m ((c : Thread nD τ).loc main_arg0)) (m ((c : Thread nD τ).loc main_arg1))
        (m ((c : Thread nD τ).loc main_arg2)) (m ((c : Thread nD τ).loc main_arg3)) := by
  refine (dats m 0 c).arrAt_eq_of_covers 7 _ (by decide +kernel) fun t hf y => ?_
  blk_simp
  rw [after0_7]
  obtain ⟨r, rfl⟩ : ∃ r : Fin 512, y = ix2 r 0 :=
    ⟨y 0, (eq_ix2 (n0 := 512) (n1 := 1) y).trans (congrArg (ix2 (y 0)) (Subsingleton.elim (α := Fin 1) _ _))⟩
  rw [emb7]
  exact out9_apply (rowTiles m c t) r (hidOf m c (rowAt t r)) (rowTiles_apply m c t r)

end Cert.KernelIdeal.Gen

end
-- ==== Proof.RefPay.lean ====
/- The reference's payloads read at an index: the two whole products, the row maximum, the row's exponent as a count of
   powers of two, and the clipped codes. -/
module

public import proofs.«01_k».proof.Proof.Gen.ReferenceIdeal.Value
public import proofs.«01_k».proof.Proof.Spec
public import Idealize.ShloMosaic.Lib.Pipeline.ValueKit.Basic

@[expose] public section

set_option maxRecDepth 16384

noncomputable section

namespace Cert.ReferenceIdeal.Gen

open Idealize.ShloMosaic Idealize.ShloMosaic.ValueIdx Cert.Expo Cert.Spec

/-! ## The gated product -/

/-- One weight. -/
theorem weight_apply (v : Vec Ideal S1x4608x7168 .i32) (k : Fin 18432) (n : Fin 7168) :
    bitcastToFloat (F := Ideal) .fp8e4m3 (bitcast S18432x7168 8
      (shapeCast S4608x7168 v shapeCasts_S1x4608x7168_S4608x7168) bitcasts_S4608x7168_w32_S18432x7168_w8) (ix2 k n)
      = wt (v (ix3 0 (quarter k) n)) k.val := by
  show Ideal.ofBits .fp8e4m3 (bitcast S18432x7168 8 _ _ (ix2 k n)) = _
  unfold wt
  congr 1
  refine (bitcast_bytes (R := 4608) (N := 7168) _ bitcasts_S4608x7168_w32_S18432x7168_w8 k n).trans ?_
  rw [shapeCast_1ab_ab_apply]
  rfl

/-- The product of the codes with the weights, at an index. -/
theorem dot_apply (x : FVec Ideal S6144x18432 .fp8e4m3) (w : FVec Ideal S18432x7168 .fp8e4m3) (i : Fin 6144) (n : Fin 7168) :
    matmul dot_S6144x18432_S18432x7168_S6144x7168_1_0_0_1_n_n none x w (constant S6144x7168 .f32 0x00000000#32) (ix2 i n)
      = ∑ k : Fin 18432, x (ix2 i k) * w (ix2 k n) := by
  refine (Ideal.matmul_plain_apply (M := 6144) (K := 18432) (N := 7168) none x w _ i n).trans ?_
  show Ideal.ofBits .f32 0x00000000#32 + _ = _
  rw [ofBits_zero, zero_add]

/-- One product, scaled by row and by column. -/
def preV (x : Vec Ideal S6144x18432 .fp8e4m3) (w : Vec Ideal S1x4608x7168 .i32) (xs : Vec Ideal S6144x1 .f32)
    (ws : Vec Ideal S1x7168 .f32) : FVec Ideal S6144x7168 .f32 :=
  mulf (mulf (matmul (φ₁ := .fp8e4m3) (φ₂ := .fp8e4m3) dot_S6144x18432_S18432x7168_S6144x7168_1_0_0_1_n_n none x
      (bitcastToFloat (F := Ideal) .fp8e4m3 (bitcast S18432x7168 8
        (shapeCast S4608x7168 w shapeCasts_S1x4608x7168_S4608x7168) bitcasts_S4608x7168_w32_S18432x7168_w8))
      (constant S6144x7168 .f32 0x00000000#32))
    (broadcastTo S6144x7168 xs broadcasts_S6144x1_S6144x7168)) (broadcastTo S6144x7168 ws broadcasts_S1x7168_S6144x7168)

theorem preV_apply (x : Vec Ideal S6144x18432 .fp8e4m3) (w : Vec Ideal S1x4608x7168 .i32) (xs : Vec Ideal S6144x1 .f32)
    (ws : Vec Ideal S1x7168 .f32) (i : Fin 6144) (n : Fin 7168) :
    preV x w xs ws (ix2 i n)
      = pre (fun k => x (ix2 i k)) (fun k => w (ix3 0 k n)) (xs (ix2 i 0)) (ws (ix2 0 n)) := by
  unfold preV pre
  rw [mulf_apply, mulf_apply, dot_apply, broadcastTo_a1_ab_apply, broadcastTo_1b_ab_apply]
  refine congrArg (fun b : EReal => b * xs (ix2 i 0) * ws (ix2 0 n)) (Finset.sum_congr rfl fun k _ => ?_)
  rw [weight_apply]

theorem pay4_eq (v0 : Vec Ideal S6144x18432 .fp8e4m3) (v1 : Vec Ideal S1x4608x7168 .i32) (v5 : Vec Ideal S6144x1 .f32)
    (v8 : Vec Ideal S1x7168 .f32) (v11 : Vec Ideal S6144x18432 .fp8e4m3) (v12 : Vec Ideal S1x4608x7168 .i32)
    (v16 : Vec Ideal S6144x1 .f32) (v19 : Vec Ideal S1x7168 .f32) :
    k0_pay4 (F := Ideal) v0 v1 v5 v8 v11 v12 v16 v19
      = mulf (mulf (preV v0 v1 v5 v8) (logistic (preV v0 v1 v5 v8))) (preV v11 v12 v16 v19) := rfl

theorem logistic_at {s : Shape} (x : FVec Ideal s .f32) (i : s.Idx) : logistic x i = Ideal.logistic (x i) := rfl

/-- The unrounded result at an index. -/
theorem pay4_apply (v0 : Vec Ideal S6144x18432 .fp8e4m3) (v1 : Vec Ideal S1x4608x7168 .i32) (v5 : Vec Ideal S6144x1 .f32)
    (v8 : Vec Ideal S1x7168 .f32) (v11 : Vec Ideal S6144x18432 .fp8e4m3) (v12 : Vec Ideal S1x4608x7168 .i32)
    (v16 : Vec Ideal S6144x1 .f32) (v19 : Vec Ideal S1x7168 .f32) (i : Fin 6144) (n : Fin 7168) :
    k0_pay4 (F := Ideal) v0 v1 v5 v8 v11 v12 v16 v19 (ix2 i n)
      = gated (pre (fun k => v0 (ix2 i k)) (fun k => v1 (ix3 0 k n)) (v5 (ix2 i 0)) (v8 (ix2 0 n)))
          (pre (fun k => v11 (ix2 i k)) (fun k => v12 (ix3 0 k n)) (v16 (ix2 i 0)) (v19 (ix2 0 n))) := by
  rw [pay4_eq, mulf_apply, mulf_apply, logistic_at, preV_apply, preV_apply]
  unfold gated
  with_reducible rfl

/-! ## The row scale -/

/-- The row scale from the unrounded result. -/
def rowV (h : FVec Ideal S6144x7168 .f32) : FVec Ideal S6144x1 .f32 :=
  mulf (shapeCast S6144x1 (multiReduction .maximumf [1] S6144 (absf h) 0xFF800000#32 reduces_S6144x7168_S6144 (.inl rfl) rfl)
    shapeCasts_S6144_S6144x1) (broadcast S6144x1 (Scalar.ofBits (F := Ideal) .f32 0x3B124925#32))

theorem pay6_eq (v0 : Vec Ideal S6144x18432 .fp8e4m3) (v1 : Vec Ideal S1x4608x7168 .i32) (v5 : Vec Ideal S6144x1 .f32)
    (v8 : Vec Ideal S1x7168 .f32) (v11 : Vec Ideal S6144x18432 .fp8e4m3) (v12 : Vec Ideal S1x4608x7168 .i32)
    (v16 : Vec Ideal S6144x1 .f32) (v19 : Vec Ideal S1x7168 .f32) :
    k0_pay6 (F := Ideal) v0 v1 v5 v8 v11 v12 v16 v19 = rowV (k0_pay4 v0 v1 v5 v8 v11 v12 v16 v19) := rfl

theorem absf_at {s : Shape} (x : FVec Ideal s .f32) (i : s.Idx) : absf x i = max (x i) (-(x i)) := rfl

theorem rowV_apply (h : FVec Ideal S6144x7168 .f32) (i : Fin 6144) (f : Fin 7168 → EReal) (hf : ∀ n, h (ix2 i n) = f n) :
    rowV h (ix2 i 0) = rowT (amax f) := by
  unfold rowV rowT amax
  rw [mulf_apply, shapeCast_a_a1_apply]
  refine congrArg (fun b : EReal => b * Ideal.ofBits .f32 0x3B124925#32) ?_
  refine (rowMax_apply (a := 6144) (b := 7168) (absf h) reduces_S6144x7168_S6144 (.inl rfl) rfl i).trans ?_
  refine Finset.sup_congr rfl fun n _ => ?_
  rw [absf_at, hf]

/-! ## The exponent -/

/-- Whether each power of two is at most the row scale. -/
def condV (t : FVec Ideal S6144x1 .f32) : IVec S6144x246 1 :=
  cmpf .oge (broadcastTo S6144x246 t broadcasts_S6144x1_S6144x246)
    (exp2 (sitofp (F := Ideal) .f32 (subi (iota .tc S6144x246 32 [1] iota_S6144x246_d1_w32) (broadcast S6144x246 126#32))))

theorem condV_apply (t : FVec Ideal S6144x1 .f32) (i : Fin 6144) (k : Fin 246) :
    condV t (ix2 i k) = 1#1 ↔ (((2 : ℝ) ^ ((k.val : ℤ) - 126) : ℝ) : EReal) ≤ t (ix2 i 0) := by
  have e1 : (exp2 (sitofp (F := Ideal) .f32 (subi (iota .tc S6144x246 32 [1] iota_S6144x246_d1_w32)
      (broadcast S6144x246 126#32))) : FVec Ideal S6144x246 .f32) (ix2 i k)
      = (((2 : ℝ) ^ ((k.val : ℤ) - 126) : ℝ) : EReal) := by
    show Ideal.exp2 (((iota .tc S6144x246 32 [1] iota_S6144x246_d1_w32 (ix2 i k) - 126#32).toInt : ℝ) : EReal) = _
    rw [iota_single_apply]
    have e2 : (BitVec.ofNat 32 ((ix2 i k : S6144x246.Idx) 1).val - 126#32).toInt = (k.val : ℤ) - 126 := by
      show (BitVec.ofNat 32 k.val - 126#32).toInt = _
      have := k.isLt
      have e3 : BitVec.ofNat 32 k.val - 126#32 = BitVec.ofInt 32 ((k.val : ℤ) - 126) := by
        rw [ofInt_sub32, BitVec.ofInt_natCast]; rfl
      rw [e3, BitVec.toInt_ofInt, Int.bmod_eq_of_le (by omega) (by omega)]
    rw [e2]
    exact exp2_int _
  unfold condV
  rw [cmpf_apply, broadcastTo_a1_ab_apply, e1]
  show BitVec.ofBool (decide _) = 1#1 ↔ _
  by_cases h : (((2 : ℝ) ^ ((k.val : ℤ) - 126) : ℝ) : EReal) ≤ t (ix2 i 0)
  · simp [h]
  · simp [h]

/-- The exponent of each row, as a word. -/
def expoV (t : FVec Ideal S6144x1 .f32) : IVec S6144x1 32 :=
  select (ori (cmpf .oeq t (broadcast S6144x1 (Scalar.ofBits (F := Ideal) .f32 0x00000000#32)))
      (cmpf .oeq t (broadcast S6144x1 (Scalar.ofBits (F := Ideal) .f32 0x7F800000#32))))
    (broadcast S6144x1 0#32)
    (subi (shapeCast S6144x1 (multiReductionI .add [1] S6144 (extui 32 (condV t) natLt_1_32) 0#32 reduces_S6144x246_S6144 rfl)
      shapeCasts_S6144_S6144x1) (broadcast S6144x1 126#32))

theorem pay1_eq (t : FVec Ideal S6144x1 .f32) :
    k0_pay1 (F := Ideal) t (iota .tc S6144x246 32 [1] iota_S6144x246_d1_w32) k0_pay7 = sitofp .f32 (expoV t) := rfl

theorem select_ori (a b : Prop) [Decidable a] [Decidable b] (x y : BitVec 32) :
    Scalar.select (IntOp.ori (BitVec.ofBool (decide a)) (BitVec.ofBool (decide b))) x y = if a ∨ b then x else y := by
  by_cases ha : a <;> by_cases hb : b <;> simp [ha, hb, Scalar.select, IntOp.ori]

theorem expoV_apply (t : FVec Ideal S6144x1 .f32) (i : Fin 6144) : expoV t (ix2 i 0) = BitVec.ofInt 32 (expo (t (ix2 i 0))) := by
  have e : (shapeCast S6144x1 (multiReductionI .add [1] S6144 (extui 32 (condV t) natLt_1_32) 0#32 reduces_S6144x246_S6144 rfl)
      shapeCasts_S6144_S6144x1) (ix2 i 0) = BitVec.ofNat 32 (Expo.count (t (ix2 i 0))) := by
    rw [shapeCast_a_a1_apply]
    refine (rowCount_apply (a := 6144) (b := 246) (condV t) natLt_1_32 reduces_S6144x246_S6144 rfl i).trans ?_
    unfold Expo.count
    congr 2
    ext k
    simp only [Finset.mem_filter, Finset.mem_univ, true_and]
    exact condV_apply t i k
  unfold expoV
  rw [select_apply]
  show Scalar.select (IntOp.ori (Ideal.cmp .oeq (t (ix2 i 0)) (Ideal.ofBits .f32 0x00000000#32))
    (Ideal.cmp .oeq (t (ix2 i 0)) (Ideal.ofBits .f32 0x7F800000#32))) 0#32
    ((shapeCast S6144x1 (multiReductionI .add [1] S6144 (extui 32 (condV t) natLt_1_32) 0#32 reduces_S6144x246_S6144 rfl)
      shapeCasts_S6144_S6144x1) (ix2 i 0) - 126#32) = _
  rw [e, ofBits_zero, ofBits_top]
  generalize t (ix2 i 0) = u
  unfold expo
  classical
  refine (select_ori (u = 0) (u = ⊤) _ _).trans ?_
  by_cases h : u = 0 ∨ u = ⊤
  · rw [if_pos h, if_pos h]; rfl
  · rw [if_neg h, if_neg h, ofInt_sub32, BitVec.ofInt_natCast]; rfl

theorem toInt_expo (t : EReal) : (BitVec.ofInt 32 (expo t)).toInt = expo t := by
  have := expo_bounds t
  rw [BitVec.toInt_ofInt, Int.bmod_eq_of_le (by omega) (by omega)]

/-- The exponent of a row, as a float. -/
theorem pay1_apply (t : FVec Ideal S6144x1 .f32) (i : Fin 6144) :
    k0_pay1 (F := Ideal) t (iota .tc S6144x246 32 [1] iota_S6144x246_d1_w32) k0_pay7 (ix2 i 0)
      = ((expo (t (ix2 i 0)) : ℝ) : EReal) := by
  rw [pay1_eq]
  show (((expoV t (ix2 i 0)).toInt : ℝ) : EReal) = _
  rw [expoV_apply, toInt_expo]

/-- The row scale rounded to a power of two. -/
theorem pay2_apply (t : FVec Ideal S6144x1 .f32) (i : Fin 6144) :
    k0_pay2 (F := Ideal) t (iota .tc S6144x246 32 [1] iota_S6144x246_d1_w32) k0_pay7 (ix2 i 0) = scale (t (ix2 i 0)) := by
  unfold k0_pay2
  show Ideal.exp2 (k0_pay1 (F := Ideal) t (iota .tc S6144x246 32 [1] iota_S6144x246_d1_w32) k0_pay7 (ix2 i 0)) = _
  rw [pay1_apply]
  exact exp2_int _

/-- The inverse row scale. -/
def invV (e : FVec Ideal S6144x1 .f32) : FVec Ideal S6144x1 .f32 :=
  exp2 (subf (broadcast S6144x1 (Scalar.ofBits (F := Ideal) .f32 0x00000000#32)) e)

theorem invV_apply (e : FVec Ideal S6144x1 .f32) (i : Fin 6144) (n : ℤ) (h : e (ix2 i 0) = ((n : ℝ) : EReal)) :
    invV e (ix2 i 0) = (((2 : ℝ) ^ (-n) : ℝ) : EReal) := by
  show Ideal.exp2 (Ideal.ofBits .f32 0x00000000#32 - e (ix2 i 0)) = _
  rw [h, ofBits_zero, zero_sub, ← EReal.coe_neg, ← Int.cast_neg]
  exact exp2_int _

/-- The codes from the unrounded result and the inverse row scale. -/
def codeV (h : FVec Ideal S6144x7168 .f32) (s : FVec Ideal S6144x1 .f32) : FVec Ideal S6144x7168 .f32 :=
  minimumf (broadcast S6144x7168 (Scalar.ofBits (F := Ideal) .f32 0x43E00000#32))
    (maximumf (broadcast S6144x7168 (Scalar.ofBits (F := Ideal) .f32 0xC3E00000#32))
      (mulf h (broadcastTo S6144x7168 s broadcasts_S6144x1_S6144x7168)))

theorem codeV_apply (h : FVec Ideal S6144x7168 .f32) (s : FVec Ideal S6144x1 .f32) (i : Fin 6144) (n : Fin 7168) :
    codeV h s (ix2 i n) = code (h (ix2 i n)) (s (ix2 i 0)) := by
  unfold codeV code
  show min (Ideal.ofBits .f32 0x43E00000#32) (max (Ideal.ofBits .f32 0xC3E00000#32)
    (mulf h (broadcastTo S6144x7168 s broadcasts_S6144x1_S6144x7168) (ix2 i n))) = _
  rw [mulf_apply, broadcastTo_a1_ab_apply]

theorem pay3_eq (h : FVec Ideal S6144x7168 .f32) (t : FVec Ideal S6144x1 .f32) (a b : IVec S6144x246 32) :
    k0_pay3 (F := Ideal) h t a b = truncf .fp8e4m3 (codeV h (invV (k0_pay1 t a b))) bitsLt_fp8e4m3_f32 := rfl

theorem truncf_at {s : Shape} (x : FVec Ideal s .f32) (h : (FTy.fp8e4m3).bits < (FTy.f32).bits) (i : s.Idx) :
    truncf .fp8e4m3 x h i = x i := rfl

/-- The codes. -/
theorem pay3_apply (h : FVec Ideal S6144x7168 .f32) (t : FVec Ideal S6144x1 .f32) (i : Fin 6144) (n : Fin 7168) :
    k0_pay3 (F := Ideal) h t (iota .tc S6144x246 32 [1] iota_S6144x246_d1_w32) k0_pay7 (ix2 i n)
      = code (h (ix2 i n)) (iscale (t (ix2 i 0))) := by
  rw [pay3_eq, truncf_at, codeV_apply, invV_apply _ i _ (pay1_apply t i)]
  unfold iscale
  with_reducible rfl

end Cert.ReferenceIdeal.Gen

end
-- ==== Proof.RefArrays.lean ====
/- The reference's result arrays as functions of its arguments. -/
module

public import proofs.«01_k».proof.Proof.RefPay
public import proofs.«01_k».proof.Proof.Result
public import Idealize.ShloMosaic.Lib.Pipeline.ValueKit.Geometry
public import Idealize.ShloMosaic.Lib.Claim

@[expose] public section

set_option maxRecDepth 16384

noncomputable section

namespace Cert.ReferenceIdeal.Gen

open Idealize.ShloMosaic Idealize.ShloMosaic.TcCoe Idealize.ShloMosaic.ValueIdx Cert.Expo Cert.Spec
open Idealize.ShloMosaic.Pipeline (Dat)

variable (m : (ℓ : Loc nD τ sig) → Buf (Elt Ideal) ℓ) (ρ : Dev nD → PrngReg)

/-! ## The blocks: the whole arrays -/

theorem idx : ∀ t : Fin cfg0.N, win0_0.index t = ![0, 0] ∧ win0_1.index t = ![0, 0, 0] ∧ win0_2.index t = ![0, 0]
    ∧ win0_3.index t = ![0, 0] ∧ win0_4.index t = ![0, 0] ∧ win0_5.index t = ![0, 0] ∧ win0_6.index t = ![0, 0] :=
  (by decide +kernel : ∀ t : Fin grid0.N, _)

theorem ix0 (t : Fin cfg0.N) : win0_0.index t = ![0, 0] := (idx t).1
theorem ix_1 (t : Fin cfg0.N) : win0_1.index t = ![0, 0, 0] := (idx t).2.1
theorem ix_2 (t : Fin cfg0.N) : win0_2.index t = ![0, 0] := (idx t).2.2.1
theorem ix_3 (t : Fin cfg0.N) : win0_3.index t = ![0, 0] := (idx t).2.2.2.1
theorem ix_4 (t : Fin cfg0.N) : win0_4.index t = ![0, 0] := (idx t).2.2.2.2.1
theorem ix_5 (t : Fin cfg0.N) : win0_5.index t = ![0, 0] := (idx t).2.2.2.2.2.1
theorem ix_6 (t : Fin cfg0.N) : win0_6.index t = ![0, 0] := (idx t).2.2.2.2.2.2

/-- The words laid out by column, as the region finds them. -/
theorem V_words (c : Dev nD) : V m c main_v1
    = shapeCast S2x4608x7168 (transpose S2x4608x56x128 [0, 2, 1, 3] (m ((c : Thread nD τ).loc main_arg1))
        transposes_S2x56x4608x128_S2x4608x56x128_0_2_1_3) shapeCasts_S2x4608x56x128_S2x4608x7168 := by
  entry_read
  rfl

theorem swap_words {α : Type} (x : S2x56x4608x128.Idx → α) (h : S2x56x4608x128.Transposes [0, 2, 1, 3] S2x4608x56x128)
    (q : Fin 2) (k : Fin 4608) (b : Fin 56) (l : Fin 128) :
    transpose S2x4608x56x128 [0, 2, 1, 3] x h (ix4 q k b l) = x (ix4 q b k l) :=
  transpose_apply [0, 2, 1, 3] x h _ _ fun c => match c with
    | ⟨0, _⟩ => rfl
    | ⟨1, _⟩ => rfl
    | ⟨2, _⟩ => rfl
    | ⟨3, _⟩ => rfl

theorem words_apply (c : Dev nD) (q : Fin 2) (k : Fin 4608) (n : Fin 7168) :
    V m c main_v1 (ix3 q k n) = word (m ((c : Thread nD τ).loc main_arg1)) q k n := by
  rw [V_words]
  refine (join_words _ shapeCasts_S2x4608x56x128_S2x4608x7168 q k n).trans ?_
  exact swap_words _ _ q k _ _

theorem blk0 (c : Dev nD) (t : Fin cfg0.N) : iblk m c 0 t = m ((c : Thread nD τ).loc main_arg0) := by
  funext y
  blk_simp [iblk, ix0 t]
  rw [V_main_arg0]
  congr 1
  blk_ext [ix0 t]

theorem blk1 (c : Dev nD) (t : Fin cfg0.N) : iblk m c 1 t = V m c main_v1 := by
  funext y
  blk_simp [iblk, ix_1 t]
  congr 1
  blk_ext [ix_1 t]

theorem blk2 (c : Dev nD) (t : Fin cfg0.N) : iblk m c 2 t = m ((c : Thread nD τ).loc main_arg2) := by
  funext y
  blk_simp [iblk, ix_2 t]
  rw [V_main_arg2]
  congr 1
  blk_ext [ix_2 t]

theorem blk3 (c : Dev nD) (t : Fin cfg0.N) : iblk m c 3 t = m ((c : Thread nD τ).loc main_arg3) := by
  funext y
  blk_simp [iblk, ix_3 t]
  rw [V_main_arg3]
  congr 1
  blk_ext [ix_3 t]

/-! ## The body's results over whole arrays -/

theorem z2 : (![0, 0] : Fin 2 → Nat) = fun _ => 0 := by
  funext a; match a with | ⟨0, _⟩ => rfl | ⟨1, _⟩ => rfl

theorem ld0 (x : Vec Ideal S6144x18432 .fp8e4m3) : View.ld x r0_0 = x := View.ld_unit_zero z2 _ x
theorem ld2 (x : Vec Ideal S6144x1 .f32) : View.ld x r0_2 = x := View.ld_unit_zero z2 _ x

theorem ld1 (x : Vec Ideal S2x4608x7168 .i32) (k : Fin 4608) (n : Fin 7168) : View.ld x r0_1 (ix3 0 k n) = x (ix3 0 k n) := by
  show x (Rect.emb _ _) = _
  congr 1
  funext a
  match a with
  | ⟨0, _⟩ => rfl
  | ⟨1, _⟩ => exact Fin.ext (by show 0 + 1 * k.val = k.val; omega)
  | ⟨2, _⟩ => exact Fin.ext (by show 0 + 1 * n.val = n.val; omega)

theorem ld4 (x : Vec Ideal S2x4608x7168 .i32) (k : Fin 4608) (n : Fin 7168) : View.ld x r0_4 (ix3 0 k n) = x (ix3 1 k n) := by
  show x (Rect.emb _ _) = _
  congr 1
  funext a
  match a with
  | ⟨0, _⟩ => rfl
  | ⟨1, _⟩ => exact Fin.ext (by show 0 + 1 * k.val = k.val; omega)
  | ⟨2, _⟩ => exact Fin.ext (by show 0 + 1 * n.val = n.val; omega)

theorem ld3 (x : Vec Ideal S2x7168 .f32) (n : Fin 7168) : View.ld x r0_3 (ix2 0 n) = x (ix2 0 n) := by
  show x (Rect.emb _ _) = _
  congr 1
  funext a
  match a with
  | ⟨0, _⟩ => rfl
  | ⟨1, _⟩ => exact Fin.ext (by show 0 + 1 * n.val = n.val; omega)

theorem ld5 (x : Vec Ideal S2x7168 .f32) (n : Fin 7168) : View.ld x r0_5 (ix2 0 n) = x (ix2 1 n) := by
  show x (Rect.emb _ _) = _
  congr 1
  funext a
  match a with
  | ⟨0, _⟩ => rfl
  | ⟨1, _⟩ => exact Fin.ext (by show 0 + 1 * n.val = n.val; omega)

/-- The unrounded result of the body over whole arrays. -/
def hV (x0 : Vec Ideal S6144x18432 .fp8e4m3) (x1 : Vec Ideal S2x4608x7168 .i32) (x2 : Vec Ideal S6144x1 .f32)
    (x3 : Vec Ideal S2x7168 .f32) : FVec Ideal S6144x7168 .f32 :=
  k0_pay4 (View.ld x0 r0_0) (View.ld x1 r0_1) (View.ld x2 r0_2) (View.ld x3 r0_3) (View.ld x0 r0_0) (View.ld x1 r0_4)
    (View.ld x2 r0_2) (View.ld x3 r0_5)

theorem hV_apply (x0 : Vec Ideal S6144x18432 .fp8e4m3) (x1 : Vec Ideal S2x4608x7168 .i32) (x2 : Vec Ideal S6144x1 .f32)
    (x3 : Vec Ideal S2x7168 .f32) (i : Fin 6144) (n : Fin 7168) :
    hV x0 x1 x2 x3 (ix2 i n)
      = H (fun i k => x0 (ix2 i k)) (fun q k n => x1 (ix3 q k n)) (fun i => x2 (ix2 i 0)) (fun q n => x3 (ix2 q n)) i n := by
  unfold hV H
  rw [pay4_apply, ld0, ld2, ld3, ld5]
  congr 2
  · funext k; exact ld1 x1 k n
  · funext k; exact ld4 x1 k n

theorem out4_eq (x0 : Vec Ideal S6144x18432 .fp8e4m3) (x1 : Vec Ideal S2x4608x7168 .i32) (x2 : Vec Ideal S6144x1 .f32)
    (x3 : Vec Ideal S2x7168 .f32) : out0_4 x0 x1 x2 x3 = truncf .bf16 (hV x0 x1 x2 x3) bitsLt_bf16_f32 := by
  unfold out0_4
  exact View.canon_unit_zero z2 _ _

theorem out5_eq (x0 : Vec Ideal S6144x18432 .fp8e4m3) (x1 : Vec Ideal S2x4608x7168 .i32) (x2 : Vec Ideal S6144x1 .f32)
    (x3 : Vec Ideal S2x7168 .f32) :
    out0_5 x0 x1 x2 x3 = k0_pay3 (hV x0 x1 x2 x3) (rowV (hV x0 x1 x2 x3))
      (iota .tc S6144x246 32 [1] iota_S6144x246_d1_w32) k0_pay7 := by
  unfold out0_5 k0_pay8 k0_pay9 k0_pay10
  rw [pay6_eq]
  exact View.canon_unit_zero z2 _ _

theorem out6_eq (x0 : Vec Ideal S6144x18432 .fp8e4m3) (x1 : Vec Ideal S2x4608x7168 .i32) (x2 : Vec Ideal S6144x1 .f32)
    (x3 : Vec Ideal S2x7168 .f32) :
    out0_6 x0 x1 x2 x3 = k0_pay2 (rowV (hV x0 x1 x2 x3)) (iota .tc S6144x246 32 [1] iota_S6144x246_d1_w32) k0_pay7 := by
  unfold out0_6 k0_pay8 k0_pay9 k0_pay10
  rw [pay6_eq]
  exact View.canon_unit_zero z2 _ _

/-- The unrounded result of the launch's arguments. -/
abbrev hidOf (c : Dev nD) : Fin 6144 → Fin 7168 → EReal :=
  hid (m ((c : Thread nD τ).loc main_arg0)) (m ((c : Thread nD τ).loc main_arg1)) (m ((c : Thread nD τ).loc main_arg2))
    (m ((c : Thread nD τ).loc main_arg3))

theorem hV_at (c : Dev nD) (t : Fin cfg0.N) (i : Fin 6144) (n : Fin 7168) :
    hV (iblk m c 0 t) (iblk m c 1 t) (iblk m c 2 t) (iblk m c 3 t) (ix2 i n) = hidOf m c i n := by
  rw [hV_apply, blk0, blk1, blk2, blk3]
  unfold hidOf hid
  congr 1
  funext q k n
  exact words_apply m c q k n

/-! ## The result arrays -/

theorem emb4 (t : Fin cfg0.N) (y : S6144x7168.Idx) : (win0_4.blk t).view.emb y = y := by
  blk_ext [ix_4 t]
theorem emb5 (t : Fin cfg0.N) (y : S6144x7168.Idx) : (win0_5.blk t).view.emb y = y := by
  blk_ext [ix_5 t]
theorem emb6 (t : Fin cfg0.N) (y : S6144x1.Idx) : (win0_6.blk t).view.emb y = y := by
  blk_ext [ix_6 t]

/-- The first result. -/
theorem out4 (c : Dev nD) : (dats m 0 c).arrAt 4 cfg0.N
    = res0 (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t hf y => ?_
  blk_simp
  rw [after0_4]
  refine Eq.trans ?_ (congrArg _ (emb4 t y)).symm
  obtain ⟨i, n, rfl⟩ : ∃ i : Fin 6144, ∃ n : Fin 7168, y = ix2 i n := ⟨y 0, y 1, eq_ix2 (n0 := 6144) (n1 := 7168) y⟩
  rw [out4_eq]
  exact hV_at m c t i n

theorem rowV_at (c : Dev nD) (t : Fin cfg0.N) (i : Fin 6144) :
    rowV (hV (iblk m c 0 t) (iblk m c 1 t) (iblk m c 2 t) (iblk m c 3 t)) (ix2 i 0) = rowT (amax (hidOf m c i)) :=
  rowV_apply _ i _ fun n => hV_at m c t i n

/-- The second result. -/
theorem out5 (c : Dev nD) : (dats m 0 c).arrAt 5 cfg0.N
    = res1 (m ((c : Thread nD τ).loc main_arg0)) (m ((c : Thread nD τ).loc main_arg1))
        (m ((c : Thread nD τ).loc main_arg2)) (m ((c : Thread nD τ).loc main_arg3)) := by
  refine (dats m 0 c).arrAt_eq_of_covers 5 _ (by decide +kernel) fun t hf y => ?_
  blk_simp
  rw [after0_5]
  refine Eq.trans ?_ (congrArg _ (emb5 t y)).symm
  obtain ⟨i, n, rfl⟩ : ∃ i : Fin 6144, ∃ n : Fin 7168, y = ix2 i n := ⟨y 0, y 1, eq_ix2 (n0 := 6144) (n1 := 7168) y⟩
  rw [out5_eq]
  refine (pay3_apply _ _ i n).trans ?_
  rw [rowV_at, hV_at]
  rfl

/-- The third result. -/
theorem out6 (c : Dev nD) : (dats m 0 c).arrAt 6 cfg0.N
    = res2 (m ((c : Thread nD τ).loc main_arg0)) (m ((c : Thread nD τ).loc main_arg1))
        (m ((c : Thread nD τ).loc main_arg2)) (m ((c : Thread nD τ).loc main_arg3)) := by
  refine (dats m 0 c).arrAt_eq_of_covers 6 _ (by decide +kernel) fun t hf y => ?_
  blk_simp
  rw [after0_6]
  refine Eq.trans ?_ (congrArg _ (emb6 t y)).symm
  obtain ⟨i, rfl⟩ : ∃ i : Fin 6144, y = ix2 i 0 :=
    ⟨y 0, (eq_ix2 (n0 := 6144) (n1 := 1) y).trans (congrArg (ix2 (y 0)) (Subsingleton.elim (α := Fin 1) _ _))⟩
  rw [out6_eq]
  refine (pay2_apply _ i).trans ?_
  rw [rowV_at]
  rfl

end Cert.ReferenceIdeal.Gen

end
-- ==== Proof.Algebraic.lean ====
/- The kernel and the reference end with the same three arrays. -/
module

public import proofs.«01_k».proof.Defs
public import proofs.«01_k».proof.Proof.Arrays
public import proofs.«01_k».proof.Proof.RefArrays

@[expose] public section

noncomputable section

open Idealize.ShloMosaic Idealize.ShloMosaic.TcCoe Idealize.SL.Sem Cert.Spec

namespace Cert.KernelIdeal.Gen

variable (m : (ℓ : Loc nD τ sig) → Buf (Elt Ideal) ℓ) (ρ : Dev nD → PrngReg)

/-- The kernel's run with its result arrays named. -/
theorem run_results : θ_run defs (onTc (τ := τ) (main (F := Ideal))) ⟨m, fun _ => 0, ρ⟩ (fun r => ∀ c : Dev nD,
      r.2.mem ((c.tc : Thread nD τ).loc main_v1_0) = res0 (m ((c : Thread nD τ).loc main_arg0)) (m ((c : Thread nD τ).loc main_arg1))
        (m ((c : Thread nD τ).loc main_arg2)) (m ((c : Thread nD τ).loc main_arg3))
      ∧ r.2.mem ((c.tc : Thread nD τ).loc main_v1_1) = res1 (m ((c : Thread nD τ).loc main_arg0)) (m ((c : Thread nD τ).loc main_arg1))
        (m ((c : Thread nD τ).loc main_arg2)) (m ((c : Thread nD τ).loc main_arg3))
      ∧ r.2.mem ((c.tc : Thread nD τ).loc main_v1_2) = res2 (m ((c : Thread nD τ).loc main_arg0)) (m ((c : Thread nD τ).loc main_arg1))
        (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
      ⟨((h.1 c).1 5).trans (out5 m c), ((h.1 c).1 6).trans (out6 m c), ((h.1 c).1 7).trans (out7 m c), h.2.1 c⟩)
    (θ_run_and (run_main m ρ) (frame m ρ))

end Cert.KernelIdeal.Gen

namespace Cert.Proof

theorem algebraic : @Cert.algebraic_KernelIdeal_ReferenceIdeal Cert.KernelIdeal.Gen.facts Cert.ReferenceIdeal.Gen.facts := by
  intro m g m' g' _ hargs
  refine ⟨fun c => res0 _ _ _ _, fun c => res1 _ _ _ _, fun c => res2 _ _ _ _, Cert.KernelIdeal.Gen.run_results m g, ?_⟩
  refine (θ_run _ _ _).mono (fun r h c => ?_) (Cert.ReferenceIdeal.Value.run_blocks m' g')
  obtain ⟨h0, h1, h2, h3⟩ := h c
  obtain ⟨a0, a1, a2, a3⟩ := hargs c
  rw [Cert.ReferenceIdeal.Gen.out4 m' c] at h0
  rw [Cert.ReferenceIdeal.Gen.out5 m' c] at h1
  rw [Cert.ReferenceIdeal.Gen.out6 m' c] at h2
  refine ⟨h0.trans ?_, h1.trans ?_, h2.trans ?_, h3⟩
  · exact congr (congr (congr (congrArg res0 a0) a1) a2) a3
  · exact congr (congr (congr (congrArg res1 a0) a1) a2) a3
  · exact congr (congr (congr (congrArg res2 a0) a1) a2) a3

end Cert.Proof

end
-- ==== Proof.KernelFrame.lean ====
/- The kernel's frame at the word level, from its frame at any instance. -/
module

public import proofs.«01_k».proof.Proof.Body
public import proofs.«01_k».proof.Proof.Gen.Kernel

@[expose] public section

set_option maxRecDepth 65536

noncomputable section

open Idealize.ShloMosaic Idealize.SL.Sem

namespace Cert.Kernel.Gen

variable {F : FTy → Type} [FloatOps F]

/-! ## The two printed programs

Nothing is rewritten in the ideal program, so each function of the one printed program is that of the other. -/

set_option maxHeartbeats 4000000 in
/-- The two kernel bodies are the same. -/
theorem body_eq : (cc0_matmul_swiglu (F := F)) = Cert.KernelIdeal.cc0_matmul_swiglu := by
  unfold cc0_matmul_swiglu Cert.KernelIdeal.cc0_matmul_swiglu
  rfl

/-- The two body tables are the same. -/
theorem defs₀_eq : (defs₀ (F := F)) = Cert.KernelIdeal.defs₀ := by
  unfold defs₀ Cert.KernelIdeal.defs₀
  rw [body_eq]
  refine congrArg Defs.onTc ?_
  funext l a
  match l, a with
  | ⟨0, _⟩, (t, s) => rfl

/-- The two tables with the pipelines are the same. -/
theorem defs_eq : (defs (F := F)) = Cert.KernelIdeal.defs := by
  unfold defs Cert.KernelIdeal.defs
  rw [defs₀_eq]
  rfl

/-- The two entry functions are the same. -/
theorem main_eq : (Cert.Kernel.main (F := F)) = Cert.KernelIdeal.main := rfl

/-- The argument arrays end unchanged and the counters end at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  rw [defs_eq, main_eq]
  exact Cert.KernelIdeal.Gen.frame m ρ

end Cert.Kernel.Gen

end
-- ==== Proof.QuantRun.lean ====
/- The quantiser's body run at one grid point: what each staging buffer holds afterwards. -/
module

public import proofs.«01_k».proof.Proof.Gen.QuantIdeal.Launch
public import proofs.«01_k».proof.Proof.Gen.QuantIdeal.Points
public import proofs.«01_k».proof.Proof.Gen.QuantIdeal.Skeleton
public import Idealize.ShloMosaic.Lib.Pipeline.FrameBody
public import Idealize.ShloMosaic.Lib.Ring
public import Idealize.ShloMosaic.Lib.Tactic
public import Idealize.ShloMosaic.Lib.ValueLayout
public import Idealize.ShloMosaic.Lib.ValueLayoutCasts
public import Idealize.ShloMosaic.Lib.WritesUnit

@[expose] public section

set_option maxRecDepth 65536

noncomputable section

namespace Cert.QuantIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The block as the body's first load reads it. -/
def all (x : Vec F S64x18432 .bf16) : Vec F S64x18432 .bf16 :=
  View.ld x (Rect.unit ![0, 0] S64x18432.size inb_S64x18432_S64x18432_0_0)

/-- The row scales the body stores. -/
def outS (x : Vec F S64x18432 .bf16) : Vec F S64x1 .f32 :=
  k0_pay9 (k0_pay2 (all x)) (k0_pay3 (all x)) (k0_pay6 (k0_pay3 (all x)) (k0_pay4 (all x)) (k0_pay5 (all x)))
    (k0_pay7 (k0_pay3 (all x)) (k0_pay4 (all x)) (k0_pay5 (all x)))

/-- The reciprocal row scales. -/
def inv (x : Vec F S64x18432 .bf16) : Vec F S64x1 .f32 :=
  k0_pay10 (k0_pay2 (all x)) (k0_pay3 (all x)) (k0_pay6 (k0_pay3 (all x)) (k0_pay4 (all x)) (k0_pay5 (all x)))
    (k0_pay7 (k0_pay3 (all x)) (k0_pay4 (all x)) (k0_pay5 (all x)))

/-- The offsets of column tile `n` are in bounds. -/
theorem inbT (n : Fin 144) : ∀ a, (![0, 128 * n.val] : Fin 2 → ℕ) a + S64x128.size a ≤ S64x18432.size a := fun a => by
  match a with
  | ⟨0, _⟩ => exact Nat.le_refl _
  | ⟨1, _⟩ => have := n.isLt; show 128 * n.val + 128 ≤ 18432; omega

/-- Column tile `n` of the block. -/
def tile (x : Vec F S64x18432 .bf16) (n : Fin 144) : Vec F S64x128 .bf16 := View.ld x (Rect.unit ![0, 128 * n.val] S64x128.size (inbT n))

/-- The codes of column tile `n`. -/
def codeT (x : Vec F S64x18432 .bf16) (n : Fin 144) : Vec F S64x128 .fp8e4m3 := k0_pay26 (k0_pay11 (inv x)) (tile x n)

/-- The first and the second half of the reordered codes of two tiles. -/
def permLo (x : Vec F S64x18432 .bf16) (p q : Fin 144) : Vec F S64x128 .fp8e4m3 :=
  k0_pay32 (k0_pay11 (inv x)) k0_pay12 k0_pay14 k0_pay15 k0_pay16 (k0_pay27 (k0_pay11 (inv x)) (tile x p)) (tile x q)
def permHi (x : Vec F S64x18432 .bf16) (p q : Fin 144) : Vec F S64x128 .fp8e4m3 :=
  k0_pay33 (k0_pay11 (inv x)) k0_pay12 k0_pay14 k0_pay15 k0_pay16 (k0_pay27 (k0_pay11 (inv x)) (tile x p)) (tile x q)

/-- The two tiles that hold tile `n`'s pair. -/
def evenT (n : Fin 144) : Fin 144 := ⟨2 * (n.val / 2), by have := n.isLt; omega⟩
def oddT (n : Fin 144) : Fin 144 := ⟨2 * (n.val / 2) + 1, by have := n.isLt; omega⟩

/-- The reordered codes of column tile `n`. -/
def permT (x : Vec F S64x18432 .bf16) (n : Fin 144) : Vec F S64x128 .fp8e4m3 :=
  if n.val % 2 = 0 then permLo x (evenT n) (oddT n) else permHi x (evenT n) (oddT n)

/-- A row of 144 tiles as one block. -/
def whole (T : Fin 144 → Vec F S64x128 .fp8e4m3) : Vec F S64x18432 .fp8e4m3 :=
  fun j => T ⟨(j 1).val / 128, by have : (j 1).val < 18432 := (j 1).isLt; omega⟩ (ix2 (j 0) ⟨(j 1).val % 128, Nat.mod_lt _ (by decide)⟩)

/-- The list of the stores of 144 tiles. -/
abbrev pieces (T : Fin 144 → Vec F S64x128 .fp8e4m3) : List (View.Piece (Elt F) S64x18432 .fp8e4m3) :=
  View.tilePieces (s := S64x18432) (NT := 144) S64x128.size (fun n => ![0, 128 * n.val]) inbT T 144 (Nat.le_refl _)

/-- 144 stores of tiles write the row of them. -/
theorem read_pieces {κ : Kind} {sp : Space} (v : View sig κ sp S64x18432 .fp8e4m3) (f : v.ty.Contents (Elt F))
    (T : Fin 144 → Vec F S64x128 .fp8e4m3) (L : List (View.Piece (Elt F) S64x18432 .fp8e4m3)) (hL : L = pieces T) :
    v.read (Elt F) (v.writes (Elt F) f L) = whole T := by
  subst hL
  funext y
  have hy : (y 1).val < 18432 := (y 1).isLt
  exact View.read_tilePieces v f S64x128.size (fun n => ![0, 128 * n.val]) inbT T 144 (Nat.le_refl _) y
    ⟨(y 1).val / 128, by omega⟩ (by show (y 1).val / 128 < 144; omega) (ix2 (y 0) ⟨(y 1).val % 128, Nat.mod_lt _ (by decide)⟩)
    (Fin.forall_fin_two.mpr ⟨(Nat.zero_add _).symm, by show (y 1).val = 128 * ((y 1).val / 128) + (y 1).val % 128; omega⟩)
    (1 : Fin 2) (fun i' hi' => by
      have : i'.val ≠ (y 1).val / 128 := fun h => hi' (Fin.ext h)
      show (y 1).val < 128 * i'.val ∨ 128 * i'.val + 128 ≤ (y 1).val
      omega)

/-- A whole two-axis buffer overwritten reads what was written. -/
theorem read_whole2 {κ : Kind} {sp : Space} {a b : ℕ} {e : EltTy} {Val : EltTy → Type} (v : View sig κ sp ⟨2, ![a, b]⟩ e)
    (f : v.ty.Contents Val) (inb : ∀ k, (![0, 0] : Fin 2 → ℕ) k + (![a, b] : Fin 2 → ℕ) k ≤ (![a, b] : Fin 2 → ℕ) k)
    (w : (⟨2, ![a, b]⟩ : Shape).Idx → Val e) (L : List (View.Piece Val ⟨2, ![a, b]⟩ e)) :
    v.read Val (v.writes Val f ((⟨Rect.unit (s := ⟨2, ![a, b]⟩) ![0, 0] ![a, b] inb, w⟩ : View.Piece Val ⟨2, ![a, b]⟩ e) :: L)) = w := by
  funext y
  exact View.read_writes_cons_unit_of_mem v f inb w L y y rfl (Fin.forall_fin_two.mpr ⟨(Nat.zero_add _).symm, (Nat.zero_add _).symm⟩)

set_option maxHeartbeats 4000000 in
/-- The body on whole buffers. -/
theorem run (c : Dev nD) (i : grid0.Coords) (arg1 : Memref sig .tc .vmem S64x18432 .bf16) (harg1 : arg1.IsWhole) (arg2 : Memref sig .tc .vmem S64x18432 .fp8e4m3) (harg2 : arg2.IsWhole)
    (arg3 : Memref sig .tc .vmem S64x18432 .fp8e4m3) (harg3 : arg3.IsWhole) (arg4 : Memref sig .tc .vmem S64x1 .f32) (harg4 : arg4.IsWhole) (x : Vec F S64x18432 .bf16) :
    ∀ (E : Set ℕ) (K : PUnit → sProp 𝕄),
      iprop(owns (c : Thread nD τ) arg1 fullShare x ∗ (∃ d, owns (c : Thread nD τ) arg2 fullShare d) ∗ (∃ d, owns (c : Thread nD τ) arg3 fullShare d) ∗ (∃ d, owns (c : Thread nD τ) arg4 fullShare d)
        ∗ (iprop(owns (c : Thread nD τ) arg1 fullShare x ∗ owns (c : Thread nD τ) arg2 fullShare (whole (codeT x)) ∗ owns (c : Thread nD τ) arg3 fullShare (whole (permT x)) ∗ owns (c : Thread nD τ) arg4 fullShare (outS x)) -∗ K ⟨⟩))
        ⊢ wp frame (wpE (defs₀ (F := F)) Variants.none c none) E (cc0_quant_x i arg1 harg1 arg2 harg2 arg3 harg3 arg4 harg4) K := by
  intro E K
  simp only [cc0_quant_x_eq_skeleton]; unfold cc0_quant_x_skel
  simp only [k0_part86_eq_skeleton, k0_part85_eq_skeleton, k0_part84_eq_skeleton, k0_part83_eq_skeleton, k0_part82_eq_skeleton, k0_part81_eq_skeleton, k0_part80_eq_skeleton, k0_part79_eq_skeleton, k0_part78_eq_skeleton, k0_part77_eq_skeleton, k0_part76_eq_skeleton, k0_part75_eq_skeleton, k0_part74_eq_skeleton, k0_part73_eq_skeleton, k0_part72_eq_skeleton, k0_part71_eq_skeleton, k0_part70_eq_skeleton, k0_part69_eq_skeleton, k0_part68_eq_skeleton, k0_part67_eq_skeleton, k0_part66_eq_skeleton, k0_part65_eq_skeleton, k0_part64_eq_skeleton, k0_part63_eq_skeleton, k0_part62_eq_skeleton, k0_part61_eq_skeleton, k0_part60_eq_skeleton, k0_part59_eq_skeleton, k0_part58_eq_skeleton, k0_part57_eq_skeleton, k0_part56_eq_skeleton, k0_part55_eq_skeleton, k0_part54_eq_skeleton, k0_part53_eq_skeleton, k0_part52_eq_skeleton, k0_part51_eq_skeleton, k0_part50_eq_skeleton, k0_part49_eq_skeleton, k0_part48_eq_skeleton, k0_part47_eq_skeleton, k0_part46_eq_skeleton, k0_part45_eq_skeleton, k0_part44_eq_skeleton, k0_part43_eq_skeleton, k0_part42_eq_skeleton, k0_part41_eq_skeleton, k0_part40_eq_skeleton, k0_part39_eq_skeleton, k0_part38_eq_skeleton, k0_part37_eq_skeleton, k0_part36_eq_skeleton, k0_part35_eq_skeleton, k0_part34_eq_skeleton, k0_part33_eq_skeleton, k0_part32_eq_skeleton, k0_part31_eq_skeleton, k0_part30_eq_skeleton, k0_part29_eq_skeleton, k0_part28_eq_skeleton, k0_part27_eq_skeleton, k0_part26_eq_skeleton, k0_part25_eq_skeleton, k0_part24_eq_skeleton, k0_part23_eq_skeleton, k0_part22_eq_skeleton, k0_part21_eq_skeleton, k0_part20_eq_skeleton, k0_part19_eq_skeleton, k0_part18_eq_skeleton, k0_part17_eq_skeleton, k0_part16_eq_skeleton, k0_part15_eq_skeleton, k0_part14_eq_skeleton, k0_part13_eq_skeleton, k0_part12_eq_skeleton, k0_part11_eq_skeleton, k0_part10_eq_skeleton, k0_part9_eq_skeleton, k0_part8_eq_skeleton, k0_part7_eq_skeleton, k0_part6_eq_skeleton, k0_part5_eq_skeleton, k0_part4_eq_skeleton, k0_part3_eq_skeleton, k0_part2_eq_skeleton, k0_part1_eq_skeleton]
  unfold owns
  iintro ⟨⟨%f0, %hf0, H0⟩, ⟨%d1, %f1, -, H1⟩, ⟨%d2, %f2, -, H2⟩, ⟨%d3, %f3, -, H3⟩, Hk⟩
  subst hf0
  sl_exec
  sl_step
  iapply Hk
  isplitl [H0]
  · iexists _; isplitr; · ipureintro; rfl
    iexact H0
  isplitl [H1]
  · iexists _; isplitr; swap; · iexact H1
    ipureintro
    exact read_pieces _ _ _ _ rfl
  isplitl [H2]
  · iexists _; isplitr; swap; · iexact H2
    ipureintro
    exact read_pieces _ _ _ _ rfl
  iexists _; isplitr; swap; · iexact H3
  ipureintro
  refine (read_whole2 _ _ _ _ _).trans ?_
  rfl

end Cert.QuantIdeal.Gen

end
-- ==== Proof.QuantBody.lean ====
/- The quantiser's launch: the arrays as the region finds them, the body at each grid point, and the run to its final
   arrays. -/
module

public import proofs.«01_k».proof.Proof.QuantRun
public import Idealize.ShloMosaic.Lib.Claim

@[expose] public section

set_option maxRecDepth 16384

noncomputable section

namespace Cert.QuantIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays and the blocks -/

/-- The buffers as the region finds them: as launched. -/
abbrev V (c : Dev nD) (b : Ref sig .tc) : Buf (Elt F) ((c : Thread nD τ).loc b) := m ((c : Thread nD τ).loc b)

/-- The entry function is the one region. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- A window's block at a point. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- What the arrays hold and what the body leaves in each buffer. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => whole (codeT (iblk m c 0 t))
    | ⟨2, _⟩ => whole (permT (iblk m c 0 t))
    | ⟨3, _⟩ => outS (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = whole (codeT (iblk m c 0 t)) := by dsimp only [dats]
theorem after0_2 (c : Dev nD) (t : Fin cfg0.N) : (dats m 0 c).after 2 t = whole (permT (iblk m c 0 t)) := by dsimp only [dats]
theorem after0_3 (c : Dev nD) (t : Fin cfg0.N) : (dats m 0 c).after 3 t = outS (iblk m c 0 t) := by dsimp only [dats]

/-- The input's buffer holds its block when the body starts. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]) t d).trans
    (by unfold Dat.fetched Dat.blockOf iblk; rw [A_eq]; try rfl)

/-! ## The body at a point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- What it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (run c (grid0.coords t) _ _ _ _ _ _ _ _ (iblk m c 0 t) Set.univ _)
  isplitl [H0]; · iexact H0
  isplitl [H1]; · iexists _; iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body table's row at a point is the body. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
set_option maxHeartbeats 800000 in
/-- The launch: every final state has the arrays as the data says and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The argument array ends unchanged and the counters end at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun _ h => ⟨fun c => ((h.1 c).1 0).trans (((dats m 0 c).arrAt_in 0 rfl _).trans (A_eq m c 0)), h.2⟩)
    (run_main_quiescent m ρ)

end Cert.QuantIdeal.Gen

end
-- ==== Proof.QuantValue.lean ====
/- The quantiser's payloads read at an index: the row maximum, the exponent search, the row's two scales and the clipped
   codes. -/
module

public import proofs.«01_k».proof.Proof.QuantRun
public import proofs.«01_k».proof.Proof.Tile

@[expose] public section

set_option maxRecDepth 16384

noncomputable section

namespace Cert.QuantIdeal.Gen

open Idealize.ShloMosaic Idealize.ShloMosaic.ValueIdx Cert.Expo Cert.Spec
open Cert.KernelIdeal.Gen (stepV searchV searchV_apply lastV lastV_apply expoW_last)

/-- The row's maximum. -/
theorem pay2_apply (x : Vec Ideal S64x18432 .bf16) (r : Fin 64) :
    k0_pay2 (F := Ideal) x (ix2 r 0) = amax fun n : Fin 18432 => x (ix2 r n) := by
  unfold k0_pay2 amax
  refine (shapeCast_a_a1_apply _ _ r 0).trans ?_
  exact (rowMax_apply (a := 64) (b := 18432) (absf (extf .f32 x bitsLt_bf16_f32)) reduces_S64x18432_S64 (.inl rfl) rfl r).trans
    (Finset.sup_congr rfl fun _ _ => rfl)

/-- The bound on the row scale, for a column of rows. -/
theorem cap_apply (a : FVec Ideal S64x1 .f32) (i : S64x1.Idx) :
    select (cmpf .oeq (mulf a (broadcast S64x1 (Scalar.ofBits (F := Ideal) .f32 0x3B124925#32)))
        (broadcast S64x1 (Scalar.ofBits (F := Ideal) .f32 0x7F800000#32)))
      (mulf a (broadcast S64x1 (Scalar.ofBits (F := Ideal) .f32 0x3B124925#32)))
      (minimumf (mulf a (broadcast S64x1 (Scalar.ofBits (F := Ideal) .f32 0x3B124925#32)))
        (broadcast S64x1 (Scalar.ofBits (F := Ideal) .f32 0x7B000000#32))) i
      = cap (rowT (a i)) := rfl

/-- The bounded row scale. -/
theorem pay3_apply (x : Vec Ideal S64x18432 .bf16) (r : Fin 64) :
    k0_pay3 (F := Ideal) x (ix2 r 0) = cap (rowT (k0_pay2 (F := Ideal) x (ix2 r 0))) := by
  unfold k0_pay3
  exact cap_apply (k0_pay2 (F := Ideal) x) (ix2 r 0)

theorem pay4_eq (x : Vec Ideal S64x18432 .bf16) :
    k0_pay4 (F := Ideal) x
      = stepV (k0_pay3 x) (stepV (k0_pay3 x) (broadcast S64x1 0#32) 1#32 128#32) 4294967233#32 64#32 := by
  unfold k0_pay4
  generalize k0_pay3 (F := Ideal) x = s
  rfl

/-- The word a step of the search compares with. -/
def midV (f : IVec S64x1 32) (mid : BitVec 32) : IVec S64x1 32 :=
  shli (addi (addi f (broadcast S64x1 mid)) (broadcast S64x1 127#32)) (broadcast S64x1 23#32)

theorem pay5_eq (x : Vec Ideal S64x18432 .bf16) : k0_pay5 (F := Ideal) x = midV (k0_pay4 x) 4294967201#32 := rfl

theorem pay6_eq (s : FVec Ideal S64x1 .f32) (f : IVec S64x1 32) :
    k0_pay6 (F := Ideal) s f (midV f 4294967201#32)
      = stepV s (stepV s (stepV s (stepV s f 4294967201#32 32#32) 4294967185#32 16#32) 4294967177#32 8#32) 4294967173#32 4#32 := rfl

theorem pay7_eq (s : FVec Ideal S64x1 .f32) (f g : IVec S64x1 32) :
    k0_pay7 (F := Ideal) s f g = midV (k0_pay6 (F := Ideal) s f g) 4294967171#32 := rfl

theorem pay8_eq (a s : FVec Ideal S64x1 .f32) (f : IVec S64x1 32) :
    k0_pay8 (F := Ideal) a s f (midV f 4294967171#32)
      = lastV a s (stepV s (stepV s f 4294967171#32 2#32) 4294967170#32 1#32) := rfl

/-- The whole block read as the body reads it. -/
theorem all_eq (x : Vec Ideal S64x18432 .bf16) : all x = x := by
  unfold all
  exact View.ld_unit_zero (by funext a; match a with | ⟨0, _⟩ => rfl | ⟨1, _⟩ => rfl) _ _

/-- The exponent word. -/
theorem pay8_apply (x : Vec Ideal S64x18432 .bf16) (r : Fin 64) :
    k0_pay8 (F := Ideal) (k0_pay2 x) (k0_pay3 x) (k0_pay6 (k0_pay3 x) (k0_pay4 x) (k0_pay5 x))
        (k0_pay7 (k0_pay3 x) (k0_pay4 x) (k0_pay5 x)) (ix2 r 0)
      = BitVec.ofInt 32 (expo (rowT (amax fun n : Fin 18432 => x (ix2 r n)))) := by
  have e : k0_pay8 (F := Ideal) (k0_pay2 x) (k0_pay3 x) (k0_pay6 (k0_pay3 x) (k0_pay4 x) (k0_pay5 x))
        (k0_pay7 (k0_pay3 x) (k0_pay4 x) (k0_pay5 x)) (ix2 r 0)
      = expoW (k0_pay2 (F := Ideal) x (ix2 r 0)) (k0_pay3 (F := Ideal) x (ix2 r 0)) := by
    rw [expoW_last, ← searchV_apply, ← lastV_apply, pay7_eq, pay8_eq, pay5_eq, pay6_eq, pay4_eq]
    unfold searchV
    with_reducible rfl
  rw [e, pay3_apply, pay2_apply]
  exact expoW_eq (rowT_nonneg (amax_nonneg _)) rowT_zero

/-- The row scale. -/
theorem outS_apply (x : Vec Ideal S64x18432 .bf16) (r : Fin 64) :
    outS (F := Ideal) x (ix2 r 0) = scale (rowT (amax fun n : Fin 18432 => x (ix2 r n))) := by
  unfold outS
  rw [all_eq]
  show Ideal.ofBits .f32 (IntOp.shli .vector (IntOp.addi (k0_pay8 (F := Ideal) _ _ _ _ (ix2 r 0)) 127#32) 23#32) = _
  rw [pay8_apply]
  exact scaleW _

/-- The inverse row scale. -/
theorem inv_apply (x : Vec Ideal S64x18432 .bf16) (r : Fin 64) :
    inv (F := Ideal) x (ix2 r 0) = iscale (rowT (amax fun n : Fin 18432 => x (ix2 r n))) := by
  unfold inv
  rw [all_eq]
  unfold k0_pay10
  refine (shapeCast_apply _ _ _ (ix2 r 0) rfl).trans ?_
  show Ideal.ofBits .f32 (IntOp.shli .vector (IntOp.addi (IntOp.subi 0#32 (k0_pay8 (F := Ideal) _ _ _ _ (ix2 r 0)))
    127#32) 23#32) = _
  rw [pay8_apply]
  exact iscaleW _

/-- The codes of one column tile. -/
theorem codeT_apply (x : Vec Ideal S64x18432 .bf16) (n : Fin 144) (r : Fin 64) (l : Fin 128) :
    codeT (F := Ideal) x n (ix2 r l)
      = code (x (ix2 r ⟨128 * n.val + l.val, by have := n.isLt; have := l.isLt; omega⟩))
          (iscale (rowT (amax fun n : Fin 18432 => x (ix2 r n)))) := by
  have e1 : k0_pay11 (F := Ideal) (inv x) (ix2 r l) = iscale (rowT (amax fun n : Fin 18432 => x (ix2 r n))) := by
    unfold k0_pay11
    exact (broadcastTo_a1_ab_apply _ broadcasts_S64x1_S64x128 r l).trans (inv_apply x r)
  have e2 : tile x n (ix2 r l) = x (ix2 r ⟨128 * n.val + l.val, by have := n.isLt; have := l.isLt; omega⟩) := by
    unfold tile
    show x (Rect.emb _ _) = _
    congr 1
    funext a
    match a with
    | ⟨0, _⟩ => exact Fin.ext (by show 0 + 1 * r.val = r.val; omega)
    | ⟨1, _⟩ => exact Fin.ext (by show 128 * n.val + 1 * l.val = 128 * n.val + l.val; omega)
  unfold codeT
  show min (Ideal.ofBits .f32 0x43E00000#32) (max (Ideal.ofBits .f32 0xC3E00000#32)
    (tile x n (ix2 r l) * k0_pay11 (F := Ideal) (inv x) (ix2 r l))) = _
  rw [e1, e2]
  rfl

/-- The codes of a whole block. -/
theorem whole_apply (x : Vec Ideal S64x18432 .bf16) (r : Fin 64) (n : Fin 18432) :
    whole (F := Ideal) (codeT x) (ix2 r n) = code (x (ix2 r n)) (iscale (rowT (amax fun n : Fin 18432 => x (ix2 r n)))) := by
  have hn := n.isLt
  refine (codeT_apply x ⟨n.val / 128, by omega⟩ r ⟨n.val % 128, by omega⟩).trans ?_
  congr 3
  exact Fin.ext (by show 128 * (n.val / 128) + n.val % 128 = n.val; omega)

end Cert.QuantIdeal.Gen

end
-- ==== Proof.QuantResult.lean ====
/- What the two result arrays of the quantiser hold, as functions of its argument array. -/
module

public import proofs.«01_k».proof.Proof.Spec

@[expose] public section

noncomputable section

namespace Cert.Spec

open Idealize.ShloMosaic Idealize.ShloMosaic.ValueIdx Cert.Expo

variable (a : (⟨2, ![6144, 18432]⟩ : Shape).Idx → EReal)

/-- The row scale of row `i` before it is rounded to a power of two. -/
def rowOf (i : Fin 6144) : EReal := rowT (amax fun n : Fin 18432 => a (ix2 i n))

/-- The codes. -/
def codes : (⟨2, ![6144, 18432]⟩ : Shape).Idx → EReal := fun j => code (a (ix2 (j 0) (j 1))) (iscale (rowOf a (j 0)))

/-- The row scales. -/
def scales : (⟨2, ![6144, 1]⟩ : Shape).Idx → EReal := fun j => scale (rowOf a (j 0))

end Cert.Spec

end
-- ==== Proof.QuantArrays.lean ====
/- The quantiser's result arrays as functions of its argument. -/
module

public import proofs.«01_k».proof.Proof.QuantBody
public import proofs.«01_k».proof.Proof.QuantValue
public import proofs.«01_k».proof.Proof.QuantResult
public import Idealize.ShloMosaic.Lib.Pipeline.ValueKit.Geometry

@[expose] public section

set_option maxRecDepth 16384

noncomputable section

namespace Cert.QuantIdeal.Gen

open Idealize.ShloMosaic Idealize.ShloMosaic.TcCoe Idealize.ShloMosaic.ValueIdx Cert.Expo Cert.Spec Idealize.SL.Sem
open Idealize.ShloMosaic.Pipeline (Dat)

variable (m : (ℓ : Loc nD τ sig) → Buf (Elt Ideal) ℓ) (ρ : Dev nD → PrngReg)

/-! ## The blocks' positions -/

theorem idx : ∀ t : Fin cfg0.N, win0_0.index t = ![t.val, 0] ∧ win0_1.index t = ![t.val, 0] ∧ win0_3.index t = ![t.val, 0] :=
  (by decide +kernel : ∀ t : Fin grid0.N, _)

theorem ix_0 (t : Fin cfg0.N) : win0_0.index t = ![t.val, 0] := (idx t).1
theorem ix_1 (t : Fin cfg0.N) : win0_1.index t = ![t.val, 0] := (idx t).2.1
theorem ix_3 (t : Fin cfg0.N) : win0_3.index t = ![t.val, 0] := (idx t).2.2

/-- The row of the array that row `r` of point `t`'s block is. -/
def rowAt (t : Fin cfg0.N) (r : Fin 64) : Fin 6144 :=
  ⟨64 * t.val + r.val, by have : t.val < 96 := Nat.lt_of_lt_of_eq t.isLt N_0; have := r.isLt; omega⟩

theorem blk0 (c : Dev nD) (t : Fin cfg0.N) (r : Fin 64) (k : Fin 18432) :
    iblk m c 0 t (ix2 r k) = m ((c : Thread nD τ).loc main_arg0) (ix2 (rowAt t r) k) := by
  blk_simp [iblk, ix_0 t]
  congr 1
  blk_ext [ix_0 t]
  show t.val * 64 + r.val = 64 * t.val + r.val
  omega

theorem emb1 (t : Fin cfg0.N) (r : Fin 64) (n : Fin 18432) : (win0_1.blk t).view.emb (ix2 r n) = ix2 (rowAt t r) n := by
  blk_ext [ix_1 t]
  show t.val * 64 + r.val = 64 * t.val + r.val
  omega

theorem emb3 (t : Fin cfg0.N) (r : Fin 64) : (win0_3.blk t).view.emb (ix2 r 0) = ix2 (rowAt t r) 0 := by
  blk_ext [ix_3 t]
  show t.val * 64 + r.val = 64 * t.val + r.val
  omega

/-- The row scale of a block's row is that of the array's row. -/
theorem row_at (c : Dev nD) (t : Fin cfg0.N) (r : Fin 64) :
    rowT (amax fun n : Fin 18432 => iblk m c 0 t (ix2 r n)) = rowOf (m ((c : Thread nD τ).loc main_arg0)) (rowAt t r) := by
  unfold rowOf
  congr 2
  funext n
  exact blk0 m c t r n

/-! ## The result arrays -/

/-- The codes. -/
theorem out1 (c : Dev nD) : (dats m 0 c).arrAt 1 cfg0.N = codes (m ((c : Thread nD τ).loc main_arg0)) := by
  refine (dats m 0 c).arrAt_eq_of_covers 1 _ (by decide +kernel) fun t hf y => ?_
  blk_simp
  rw [after0_1]
  obtain ⟨r, n, rfl⟩ : ∃ r : Fin 64, ∃ n : Fin 18432, y = ix2 r n := ⟨y 0, y 1, eq_ix2 (n0 := 64) (n1 := 18432) y⟩
  rw [emb1]
  refine (whole_apply (iblk m c 0 t) r n).trans ?_
  rw [row_at, blk0]
  rfl

/-- The row scales. -/
theorem out3 (c : Dev nD) : (dats m 0 c).arrAt 3 cfg0.N = scales (m ((c : Thread nD τ).loc main_arg0)) := by
  refine (dats m 0 c).arrAt_eq_of_covers 3 _ (by decide +kernel) fun t hf y => ?_
  blk_simp
  rw [after0_3]
  obtain ⟨r, rfl⟩ : ∃ r : Fin 64, y = ix2 r 0 :=
    ⟨y 0, (eq_ix2 (n0 := 64) (n1 := 1) y).trans (congrArg (ix2 (y 0)) (Subsingleton.elim (α := Fin 1) _ _))⟩
  rw [emb3]
  refine (outS_apply (iblk m c 0 t) r).trans ?_
  rw [row_at]
  rfl

/-- The run with its result arrays named. -/
theorem run_results : θ_run defs (onTc (τ := τ) (main (F := Ideal))) ⟨m, fun _ => 0, ρ⟩ (fun r => ∀ c : Dev nD,
      r.2.mem ((c.tc : Thread nD τ).loc main_v0_0) = codes (m ((c : Thread nD τ).loc main_arg0))
      ∧ r.2.mem ((c.tc : Thread nD τ).loc main_v0_2) = scales (m ((c : Thread nD τ).loc main_arg0))
      ∧ r.2.mem ((c.tc : Thread nD τ).loc main_arg0) = m ((c.tc : Thread nD τ).loc main_arg0)) :=
  (θ_run defs _ _).mono (fun r h c => ⟨((h.1 c).1 1).trans (out1 m c), ((h.1 c).1 3).trans (out3 m c), h.2.1 c⟩)
    (θ_run_and (run_main m ρ) (frame m ρ))

end Cert.QuantIdeal.Gen

end
-- ==== Proof.QuantRef.lean ====
/- The quantiser's reference: its payloads at an index and its result arrays as functions of its argument. -/
module

public import proofs.«01_k».proof.Proof.Gen.QuantReferenceIdeal.Value
public import proofs.«01_k».proof.Proof.RefPay
public import proofs.«01_k».proof.Proof.QuantResult
public import Idealize.ShloMosaic.Lib.Pipeline.ValueKit.Geometry

@[expose] public section

set_option maxRecDepth 16384

noncomputable section

namespace Cert.QuantReferenceIdeal.Gen

open Idealize.ShloMosaic Idealize.ShloMosaic.TcCoe Idealize.ShloMosaic.ValueIdx Cert.Expo Cert.Spec
open Cert.ReferenceIdeal.Gen (expoV expoV_apply toInt_expo invV invV_apply)
open Idealize.ShloMosaic.Pipeline (Dat)

variable (m : (ℓ : Loc nD τ sig) → Buf (Elt Ideal) ℓ)

/-! ## The payloads -/

/-- The row scale before it is rounded. -/
def rowV (x : Vec Ideal S6144x18432 .bf16) : FVec Ideal S6144x1 .f32 :=
  mulf (shapeCast S6144x1 (multiReduction .maximumf [1] S6144 (absf (k0_pay1 x)) 0xFF800000#32 reduces_S6144x18432_S6144
    (.inl rfl) rfl) shapeCasts_S6144_S6144x1) (broadcast S6144x1 (Scalar.ofBits (F := Ideal) .f32 0x3B124925#32))

theorem rowV_apply (x : Vec Ideal S6144x18432 .bf16) (i : Fin 6144) : rowV x (ix2 i 0) = rowOf x i := by
  unfold rowV rowOf rowT amax
  rw [mulf_apply, shapeCast_a_a1_apply]
  refine congrArg (fun b : EReal => b * Ideal.ofBits .f32 0x3B124925#32) ?_
  exact (rowMax_apply (a := 6144) (b := 18432) (absf (k0_pay1 x)) reduces_S6144x18432_S6144 (.inl rfl) rfl i).trans
    (Finset.sup_congr rfl fun _ _ => rfl)

theorem pay2_eq (x : Vec Ideal S6144x18432 .bf16) : k0_pay2 (F := Ideal) x = sitofp .f32 (expoV (rowV x)) := rfl

/-- The exponent of a row, as a float. -/
theorem pay2_apply (x : Vec Ideal S6144x18432 .bf16) (i : Fin 6144) :
    k0_pay2 (F := Ideal) x (ix2 i 0) = ((expo (rowOf x i) : ℝ) : EReal) := by
  rw [pay2_eq]
  show (((expoV (rowV x) (ix2 i 0)).toInt : ℝ) : EReal) = _
  rw [expoV_apply, toInt_expo, rowV_apply]

/-- The row scale. -/
theorem pay3_apply (x : Vec Ideal S6144x18432 .bf16) (i : Fin 6144) :
    k0_pay3 (F := Ideal) x (ix2 i 0) = scale (rowOf x i) := by
  unfold k0_pay3
  show Ideal.exp2 (k0_pay2 (F := Ideal) x (ix2 i 0)) = _
  rw [pay2_apply]
  exact exp2_int _

/-- The codes. -/
theorem pay4_apply (x : Vec Ideal S6144x18432 .bf16) (i : Fin 6144) (n : Fin 18432) :
    k0_pay4 (F := Ideal) x (ix2 i n) = code (x (ix2 i n)) (iscale (rowOf x i)) := by
  have e : invV (k0_pay2 x) (ix2 i 0) = iscale (rowOf x i) := invV_apply _ i _ (pay2_apply x i)
  have e' : broadcastTo S6144x18432 (invV (k0_pay2 x)) broadcasts_S6144x1_S6144x18432 (ix2 i n) = iscale (rowOf x i) :=
    (broadcastTo_a1_ab_apply _ broadcasts_S6144x1_S6144x18432 i n).trans e
  unfold k0_pay4 code
  show min (Ideal.ofBits .f32 0x43E00000#32) (max (Ideal.ofBits .f32 0xC3E00000#32)
    (x (ix2 i n) * broadcastTo S6144x18432 (invV (k0_pay2 x)) broadcasts_S6144x1_S6144x18432 (ix2 i n))) = _
  rw [e']

/-! ## The arrays -/

theorem idx : ∀ t : Fin cfg0.N, win0_0.index t = ![0, 0] ∧ win0_1.index t = ![0, 0] ∧ win0_2.index t = ![0, 0] :=
  (by decide +kernel : ∀ t : Fin grid0.N, _)

theorem ix_0 (t : Fin cfg0.N) : win0_0.index t = ![0, 0] := (idx t).1
theorem ix_1 (t : Fin cfg0.N) : win0_1.index t = ![0, 0] := (idx t).2.1
theorem ix_2 (t : Fin cfg0.N) : win0_2.index t = ![0, 0] := (idx t).2.2

theorem blk0 (c : Dev nD) (t : Fin cfg0.N) : iblk m c 0 t = m ((c : Thread nD τ).loc main_arg0) := by
  funext y
  blk_simp [iblk, ix_0 t]
  congr 1
  blk_ext [ix_0 t]

theorem emb1 (t : Fin cfg0.N) (y : S6144x18432.Idx) : (win0_1.blk t).view.emb y = y := by
  blk_ext [ix_1 t]
theorem emb2 (t : Fin cfg0.N) (y : S6144x1.Idx) : (win0_2.blk t).view.emb y = y := by
  blk_ext [ix_2 t]

theorem z2 : (![0, 0] : Fin 2 → Nat) = fun _ => 0 := by
  funext a; match a with | ⟨0, _⟩ => rfl | ⟨1, _⟩ => rfl

theorem ld0 (x : Vec Ideal S6144x18432 .bf16) : View.ld x r0_0 = x := View.ld_unit_zero z2 _ x

theorem out1_eq (x : Vec Ideal S6144x18432 .bf16) : out0_1 x = k0_pay4 x := by
  unfold out0_1
  rw [ld0]
  exact View.canon_unit_zero z2 _ _

theorem out2_eq (x : Vec Ideal S6144x18432 .bf16) : out0_2 x = k0_pay3 x := by
  unfold out0_2
  rw [ld0]
  exact View.canon_unit_zero z2 _ _

/-- The codes. -/
theorem out1 (c : Dev nD) : (dats m 0 c).arrAt 1 cfg0.N = codes (m ((c : Thread nD τ).loc main_arg0)) := by
  refine (dats m 0 c).arrAt_eq_of_covers 1 _ (by decide +kernel) fun t hf y => ?_
  blk_simp
  rw [after0_1]
  refine Eq.trans ?_ (congrArg _ (emb1 t y)).symm
  obtain ⟨i, n, rfl⟩ : ∃ i : Fin 6144, ∃ n : Fin 18432, y = ix2 i n := ⟨y 0, y 1, eq_ix2 (n0 := 6144) (n1 := 18432) y⟩
  rw [out1_eq, blk0]
  exact pay4_apply _ i n

/-- The row scales. -/
theorem out2 (c : Dev nD) : (dats m 0 c).arrAt 2 cfg0.N = scales (m ((c : Thread nD τ).loc main_arg0)) := by
  refine (dats m 0 c).arrAt_eq_of_covers 2 _ (by decide +kernel) fun t hf y => ?_
  blk_simp
  rw [after0_2]
  refine Eq.trans ?_ (congrArg _ (emb2 t y)).symm
  obtain ⟨i, rfl⟩ : ∃ i : Fin 6144, y = ix2 i 0 :=
    ⟨y 0, (eq_ix2 (n0 := 6144) (n1 := 1) y).trans (congrArg (ix2 (y 0)) (Subsingleton.elim (α := Fin 1) _ _))⟩
  rw [out2_eq, blk0]
  exact pay3_apply _ i

end Cert.QuantReferenceIdeal.Gen

end
-- ==== Proof.QuantAlgebraic.lean ====
/- The quantiser and its reference end with the same two arrays. -/
module

public import proofs.«01_k».proof.Defs
public import proofs.«01_k».proof.Proof.QuantArrays
public import proofs.«01_k».proof.Proof.QuantRef

@[expose] public section

noncomputable section

open Idealize.ShloMosaic Idealize.ShloMosaic.TcCoe Idealize.SL.Sem Cert.Spec

namespace Cert.Proof

theorem quant_algebraic :
    @Cert.algebraic_QuantIdeal_QuantReferenceIdeal Cert.QuantIdeal.Gen.facts Cert.QuantReferenceIdeal.Gen.facts := by
  intro m g m' g' _ hargs
  refine ⟨fun c => codes _, fun c => scales _, Cert.QuantIdeal.Gen.run_results m g, ?_⟩
  refine (θ_run _ _ _).mono (fun r h c => ?_) (Cert.QuantReferenceIdeal.Value.run_blocks m' g')
  obtain ⟨h0, h1, h2⟩ := h c
  rw [Cert.QuantReferenceIdeal.Gen.out1 m' c] at h0
  rw [Cert.QuantReferenceIdeal.Gen.out2 m' c] at h1
  exact ⟨h0.trans (congrArg codes (hargs c)), h1.trans (congrArg scales (hargs c)), h2⟩

end Cert.Proof

end
-- ==== Proof.QuantFrame.lean ====
/- The quantiser's frame at the word level, from its frame at any instance. -/
module

public import proofs.«01_k».proof.Proof.QuantBody
public import proofs.«01_k».proof.Proof.Gen.Quant

@[expose] public section

set_option maxRecDepth 65536

noncomputable section

open Idealize.ShloMosaic Idealize.SL.Sem

namespace Cert.Quant.Gen

variable {F : FTy → Type} [FloatOps F]

/-! ## The two printed programs

Nothing is rewritten in the ideal program, so each function of the one printed program is that of the other. -/

set_option maxHeartbeats 40000000 in
/-- The two kernel bodies are the same. -/
theorem body_eq : (cc0_quant_x (F := F)) = Cert.QuantIdeal.cc0_quant_x := by
  unfold cc0_quant_x Cert.QuantIdeal.cc0_quant_x
  rfl

/-- The two body tables are the same. -/
theorem defs₀_eq : (defs₀ (F := F)) = Cert.QuantIdeal.defs₀ := by
  unfold defs₀ Cert.QuantIdeal.defs₀
  rw [body_eq]
  refine congrArg Defs.onTc ?_
  funext l a
  match l, a with
  | ⟨0, _⟩, (t, s) => rfl

/-- The two tables with the pipelines are the same. -/
theorem defs_eq : (defs (F := F)) = Cert.QuantIdeal.defs := by
  unfold defs Cert.QuantIdeal.defs
  rw [defs₀_eq]
  rfl

/-- The two entry functions are the same. -/
theorem main_eq : (Cert.Quant.main (F := F)) = Cert.QuantIdeal.main := rfl

/-- The argument array ends unchanged and the counters end at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) := by
  rw [defs_eq, main_eq]
  exact Cert.QuantIdeal.Gen.frame m ρ

end Cert.Quant.Gen

end
-- ==== Proof.lean ====
/- For each of the two calls: the kernel's and the reference's frames, the kernel's idealization, and the equality of
   their results over the extended reals. -/
module

public import proofs.«01_k».proof.Proof.Gen.ReferenceIdeal.Value
public import proofs.«01_k».proof.Defs
public import proofs.«01_k».proof.Proof.Algebraic
public import proofs.«01_k».proof.Proof.KernelFrame
public import proofs.«01_k».proof.Proof.QuantAlgebraic
public import proofs.«01_k».proof.Proof.QuantFrame
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Quant
public import proofs.«01_k».proof.Proof.Gen.Quant.Skeleton
public import proofs.«01_k».proof.Proof.Gen.Quant.Launch
public import proofs.«01_k».proof.Proof.Gen.Quant.Points
public import proofs.«01_k».proof.Proof.Gen.QuantIdeal
public import proofs.«01_k».proof.Proof.Gen.QuantIdeal.Skeleton
public import proofs.«01_k».proof.Proof.Gen.QuantIdeal.Launch
public import proofs.«01_k».proof.Proof.Gen.QuantIdeal.Points
public import proofs.«01_k».proof.Proof.Gen.QuantReferenceIdeal
public import proofs.«01_k».proof.Proof.Gen.QuantReferenceIdeal.Skeleton
public import proofs.«01_k».proof.Proof.Gen.QuantReferenceIdeal.Launch
public import proofs.«01_k».proof.Proof.Gen.QuantReferenceIdeal.Points
public import proofs.«01_k».proof.Proof.Gen.QuantReferenceIdeal.Frame
public import proofs.«01_k».proof.Proof.Gen.QuantReferenceIdeal.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Quant.Gen.facts, Cert.QuantIdeal.Gen.facts, Cert.QuantReferenceIdeal.Gen.facts,
  fun m ρ _ => Cert.Kernel.Gen.frame m ρ, fun m ρ _ => Cert.KernelIdeal.Gen.frame m ρ,
  fun m ρ _ => Cert.ReferenceIdeal.Gen.frame m ρ, fun m ρ _ => Cert.Quant.Gen.frame m ρ,
  fun m ρ _ => Cert.QuantIdeal.Gen.frame m ρ, fun m ρ _ => Cert.QuantReferenceIdeal.Gen.frame m ρ, trivial, algebraic,
  trivial, quant_algebraic⟩

end Cert.Proof

end
